-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "softcap_log2e" .f32 0x429044FE#32 ((50 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x8192 : Shape := ⟨3, ![4, 4096, 8192]⟩
abbrev S64 : Shape := ⟨1, ![64]⟩
abbrev S_ : Shape := ⟨0, ![]⟩
abbrev S1x256x128 : Shape := ⟨3, ![1, 256, 128]⟩
abbrev S1x4096x128 : Shape := ⟨3, ![1, 4096, 128]⟩
abbrev S16x256x256 : Shape := ⟨3, ![16, 256, 256]⟩
abbrev S256x128 : Shape := ⟨2, ![256, 128]⟩
abbrev S1 : Shape := ⟨1, ![1]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 17
  | .vmem => 11
  | .smem => 2
  | _ => 0

abbrev bufTy : (tb : Table) → Fin (tcTables nBuf tb) → BufTy
  | .hbm, ⟨0, _⟩ => ⟨S4x4096x8192, .fp8e4m3⟩
  | .hbm, ⟨1, _⟩ => ⟨S64, .f32⟩
  | .hbm, ⟨2, _⟩ => ⟨S4x4096x8192, .fp8e4m3⟩
  | .hbm, ⟨3, _⟩ => ⟨S64, .f32⟩
  | .hbm, ⟨4, _⟩ => ⟨S4x4096x8192, .fp8e4m3⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S4x4096x8192, .bf16⟩
  | .local _ .vmem, ⟨0, _⟩ => ⟨S1x256x128, .fp8e4m3⟩
  | .local _ .vmem, ⟨1, _⟩ => ⟨S1x256x128, .fp8e4m3⟩
  | .local _ .vmem, ⟨2, _⟩ => ⟨S1x4096x128, .fp8e4m3⟩
  | .local _ .vmem, ⟨3, _⟩ => ⟨S1x4096x128, .fp8e4m3⟩
  | .local _ .vmem, ⟨4, _⟩ => ⟨S1x4096x128, .fp8e4m3⟩
  | .local _ .vmem, ⟨5, _⟩ => ⟨S1x4096x128, .fp8e4m3⟩
  | .local _ .vmem, ⟨6, _⟩ => ⟨S1x256x128, .bf16⟩
  | .local _ .vmem, ⟨7, _⟩ => ⟨S1x256x128, .bf16⟩
  | .local _ .vmem, ⟨8, _⟩ => ⟨S16x256x256, .f32⟩
  | .local _ .vmem, ⟨9, _⟩ => ⟨S256x128, .f32⟩
  | .local _ .vmem, ⟨10, _⟩ => ⟨S256x128, .f32⟩
  | .local _ .smem, ⟨0, _⟩ => ⟨S64, .f32⟩
  | .local _ .smem, ⟨1, _⟩ => ⟨S64, .f32⟩
  | _, _ => ⟨S4x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 64, 16], ![false, false, false]⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 3 → Nat :=
  let c0_2 : Index := 0#32
  let arg2 : BitVec 32 := BitVec.ofNat 32 (i 2).val
  let c256_i32 : BitVec 32 := 256#32
  let v7 : BitVec 32 := Scalar.muli arg2 c256_i32
  let v8 : Index := Scalar.indexCast v7
  let c0_3 : Index := 0#32
  ![0, v8.toNat, 0]
def k0_off3 (i : grid0.Coords) : Fin 3 → Nat :=
  let arg2 : BitVec 32 := BitVec.ofNat 32 (i 2).val
  let v20 : Index := Scalar.indexCast arg2
  let c0_6 : Index := 0#32
  let c0_7 : Index := 0#32
  ![v20.toNat, 0, 0]
@[reducible] def k0_t1_loop (i : grid0.Coords) : Scf.Loop 32 :=
  let c0_i32_10 : BitVec 32 := 0#32
  let arg2 : BitVec 32 := BitVec.ofNat 32 (i 2).val
  let v30 : BitVec 32 := Scalar.subi arg2 c0_i32_10
  let c1_i32 : BitVec 32 := 1#32
  let v32 : BitVec 32 := Scalar.divsi v30 c1_i32
  let v33 : BitVec 32 := Scalar.muli v32 c1_i32
  let v34 : BitVec 32 := Scalar.addi c0_i32_10 v33
  let c1_i32_11 : BitVec 32 := 1#32
  ⟨c0_i32_10, v34, c1_i32_11⟩
def k0_off4 (i : grid0.Coords) (k0_t1 : Fin (k0_t1_loop i).trips) : Fin 3 → Nat :=
  let c0_32 : Index := 0#32
  let c0_i32_10 : BitVec 32 := 0#32
  let c1_i32_11 : BitVec 32 := 1#32
  let arg12 : BitVec 32 := Scf.iv c0_i32_10 c1_i32_11 k0_t1
  let c256_i32_31 : BitVec 32 := 256#32
  let v59 : BitVec 32 := Scalar.muli arg12 c256_i32_31
  let v60 : Index := Scalar.indexCast v59
  let c0_33 : Index := 0#32
  ![0, v60.toNat, 0]
def k0_off5 (i : grid0.Coords) (k0_t1 : Fin (k0_t1_loop i).trips) : Fin 3 → Nat :=
  let c0_i32_10 : BitVec 32 := 0#32
  let c1_i32_11 : BitVec 32 := 1#32
  let arg12 : BitVec 32 := Scf.iv c0_i32_10 c1_i32_11 k0_t1
  let v70 : Index := Scalar.indexCast arg12
  let c0_36 : Index := 0#32
  let c0_37 : Index := 0#32
  ![v70.toNat, 0, 0]
@[reducible] def k0_t2_loop (i : grid0.Coords) : Scf.Loop 32 :=
  let c0_i32_10 : BitVec 32 := 0#32
  let arg2 : BitVec 32 := BitVec.ofNat 32 (i 2).val
  let v30 : BitVec 32 := Scalar.subi arg2 c0_i32_10
  let c1_i32 : BitVec 32 := 1#32
  let v32 : BitVec 32 := Scalar.divsi v30 c1_i32
  let v33 : BitVec 32 := Scalar.muli v32 c1_i32
  let v34 : BitVec 32 := Scalar.addi c0_i32_10 v33
  let v31 : BitVec 32 := Scalar.addi c0_i32_10 v30
  let c1_i32_12 : BitVec 32 := 1#32
  ⟨v34, v31, c1_i32_12⟩
def k0_off6 (i : grid0.Coords) (k0_t2 : Fin (k0_t2_loop i).trips) : Fin 3 → Nat :=
  let c0_32 : Index := 0#32
  let c0_i32_10 : BitVec 32 := 0#32
  let arg2 : BitVec 32 := BitVec.ofNat 32 (i 2).val
  let v30 : BitVec 32 := Scalar.subi arg2 c0_i32_10
  let c1_i32 : BitVec 32 := 1#32
  let v32 : BitVec 32 := Scalar.divsi v30 c1_i32
  let v33 : BitVec 32 := Scalar.muli v32 c1_i32
  let v34 : BitVec 32 := Scalar.addi c0_i32_10 v33
  let c1_i32_12 : BitVec 32 := 1#32
  let arg12 : BitVec 32 := Scf.iv v34 c1_i32_12 k0_t2
  let c256_i32_31 : BitVec 32 := 256#32
  let v59 : BitVec 32 := Scalar.muli arg12 c256_i32_31
  let v60 : Index := Scalar.indexCast v59
  let c0_33 : Index := 0#32
  ![0, v60.toNat, 0]
def k0_off7 (i : grid0.Coords) (k0_t2 : Fin (k0_t2_loop i).trips) : Fin 3 → Nat :=
  let c0_i32_10 : BitVec 32 := 0#32
  let arg2 : BitVec 32 := BitVec.ofNat 32 (i 2).val
  let v30 : BitVec 32 := Scalar.subi arg2 c0_i32_10
  let c1_i32 : BitVec 32 := 1#32
  let v32 : BitVec 32 := Scalar.divsi v30 c1_i32
  let v33 : BitVec 32 := Scalar.muli v32 c1_i32
  let v34 : BitVec 32 := Scalar.addi c0_i32_10 v33
  let c1_i32_12 : BitVec 32 := 1#32
  let arg12 : BitVec 32 := Scf.iv v34 c1_i32_12 k0_t2
  let v70 : Index := Scalar.indexCast arg12
  let c0_36 : Index := 0#32
  let c0_37 : Index := 0#32
  ![v70.toNat, 0, 0]
@[reducible] def k0_t3_loop (i : grid0.Coords) : Scf.Loop 32 :=
  let c0_i32_22 : BitVec 32 := 0#32
  let arg2 : BitVec 32 := BitVec.ofNat 32 (i 2).val
  let c1_i32_20 : BitVec 32 := 1#32
  let v44 : BitVec 32 := Scalar.addi arg2 c1_i32_20
  let v45 : BitVec 32 := Scalar.subi v44 c0_i32_22
  let c1_i32_23 : BitVec 32 := 1#32
  let v47 : BitVec 32 := Scalar.divsi v45 c1_i32_23
  let v48 : BitVec 32 := Scalar.muli v47 c1_i32_23
  let v49 : BitVec 32 := Scalar.addi c0_i32_22 v48
  let c1_i32_24 : BitVec 32 := 1#32
  ⟨c0_i32_22, v49, c1_i32_24⟩
def k0_off8 (i : grid0.Coords) (k0_t3 : Fin (k0_t3_loop i).trips) : Fin 3 → Nat :=
  let c0_i32_22 : BitVec 32 := 0#32
  let c1_i32_24 : BitVec 32 := 1#32
  let arg12 : BitVec 32 := Scf.iv c0_i32_22 c1_i32_24 k0_t3
  let v59 : Index := Scalar.indexCast arg12
  let c0_31 : Index := 0#32
  let c0_32 : Index := 0#32
  ![v59.toNat, 0, 0]
def k0_off9 (i : grid0.Coords) (k0_t3 : Fin (k0_t3_loop i).trips) : Fin 3 → Nat :=
  let c0_36 : Index := 0#32
  let c0_i32_22 : BitVec 32 := 0#32
  let c1_i32_24 : BitVec 32 := 1#32
  let arg12 : BitVec 32 := Scf.iv c0_i32_22 c1_i32_24 k0_t3
  let c256_i32_35 : BitVec 32 := 256#32
  let v69 : BitVec 32 := Scalar.muli arg12 c256_i32_35
  let v70 : Index := Scalar.indexCast v69
  let c0_37 : Index := 0#32
  ![0, v70.toNat, 0]
@[reducible] def k0_t4_loop (i : grid0.Coords) : Scf.Loop 32 :=
  let c0_i32_22 : BitVec 32 := 0#32
  let arg2 : BitVec 32 := BitVec.ofNat 32 (i 2).val
  let c1_i32_20 : BitVec 32 := 1#32
  let v44 : BitVec 32 := Scalar.addi arg2 c1_i32_20
  let v45 : BitVec 32 := Scalar.subi v44 c0_i32_22
  let c1_i32_23 : BitVec 32 := 1#32
  let v47 : BitVec 32 := Scalar.divsi v45 c1_i32_23
  let v48 : BitVec 32 := Scalar.muli v47 c1_i32_23
  let v49 : BitVec 32 := Scalar.addi c0_i32_22 v48
  let v46 : BitVec 32 := Scalar.addi c0_i32_22 v45
  let c1_i32_25 : BitVec 32 := 1#32
  ⟨v49, v46, c1_i32_25⟩
def k0_off10 (i : grid0.Coords) (k0_t4 : Fin (k0_t4_loop i).trips) : Fin 3 → Nat :=
  let c0_i32_22 : BitVec 32 := 0#32
  let arg2 : BitVec 32 := BitVec.ofNat 32 (i 2).val
  let c1_i32_20 : BitVec 32 := 1#32
  let v44 : BitVec 32 := Scalar.addi arg2 c1_i32_20
  let v45 : BitVec 32 := Scalar.subi v44 c0_i32_22
  let c1_i32_23 : BitVec 32 := 1#32
  let v47 : BitVec 32 := Scalar.divsi v45 c1_i32_23
  let v48 : BitVec 32 := Scalar.muli v47 c1_i32_23
  let v49 : BitVec 32 := Scalar.addi c0_i32_22 v48
  let c1_i32_25 : BitVec 32 := 1#32
  let arg12 : BitVec 32 := Scf.iv v49 c1_i32_25 k0_t4
  let v59 : Index := Scalar.indexCast arg12
  let c0_31 : Index := 0#32
  let c0_32 : Index := 0#32
  ![v59.toNat, 0, 0]
def k0_off11 (i : grid0.Coords) (k0_t4 : Fin (k0_t4_loop i).trips) : Fin 3 → Nat :=
  let c0_36 : Index := 0#32
  let c0_i32_22 : BitVec 32 := 0#32
  let arg2 : BitVec 32 := BitVec.ofNat 32 (i 2).val
  let c1_i32_20 : BitVec 32 := 1#32
  let v44 : BitVec 32 := Scalar.addi arg2 c1_i32_20
  let v45 : BitVec 32 := Scalar.subi v44 c0_i32_22
  let c1_i32_23 : BitVec 32 := 1#32
  let v47 : BitVec 32 := Scalar.divsi v45 c1_i32_23
  let v48 : BitVec 32 := Scalar.muli v47 c1_i32_23
  let v49 : BitVec 32 := Scalar.addi c0_i32_22 v48
  let c1_i32_25 : BitVec 32 := 1#32
  let arg12 : BitVec 32 := Scf.iv v49 c1_i32_25 k0_t4
  let c256_i32_35 : BitVec 32 := 256#32
  let v69 : BitVec 32 := Scalar.muli arg12 c256_i32_35
  let v70 : Index := Scalar.indexCast v69
  let c0_37 : Index := 0#32
  ![0, v70.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "softcap_log2e" => some ((50 * (Real.log 2)⁻¹ : ℝ) : EReal)
  | _ => none
-- ==== ReferenceIdeal.lean ====
abbrev S4x4096x8192 : Shape := ⟨3, ![4, 4096, 8192]⟩
abbrev S64 : Shape := ⟨1, ![64]⟩
abbrev S1x64 : Shape := ⟨2, ![1, 64]⟩
abbrev S4x4096x64x128 : Shape := ⟨4, ![4, 4096, 64, 128]⟩
abbrev S4x64x4096x128 : Shape := ⟨4, ![4, 64, 4096, 128]⟩
abbrev S256x4096x128 : Shape := ⟨3, ![256, 4096, 128]⟩
abbrev S256x4096x4096 : Shape := ⟨3, ![256, 4096, 4096]⟩
abbrev S4x64 : Shape := ⟨2, ![4, 64]⟩
abbrev S256x1x1 : Shape := ⟨3, ![256, 1, 1]⟩
abbrev S256x4096 : Shape := ⟨2, ![256, 4096]⟩
abbrev S256x4096x1 : Shape := ⟨3, ![256, 4096, 1]⟩

abbrev nBuf : Space → Nat
  | .hbm => 10
  | .vmem => 7
  | .smem => 0
  | _ => 0

abbrev bufTy : (tb : Table) → Fin (tcTables nBuf tb) → BufTy
  | .hbm, ⟨0, _⟩ => ⟨S4x4096x8192, .fp8e4m3⟩
  | .hbm, ⟨1, _⟩ => ⟨S64, .f32⟩
  | .hbm, ⟨2, _⟩ => ⟨S4x4096x8192, .fp8e4m3⟩
  | .hbm, ⟨3, _⟩ => ⟨S64, .f32⟩
  | .hbm, ⟨4, _⟩ => ⟨S4x4096x8192, .fp8e4m3⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S4x4096x8192, .bf16⟩
  | .local _ .vmem, ⟨0, _⟩ => ⟨S4x4096x8192, .fp8e4m3⟩
  | .local _ .vmem, ⟨1, _⟩ => ⟨S1x64, .f32⟩
  | .local _ .vmem, ⟨2, _⟩ => ⟨S4x4096x8192, .fp8e4m3⟩
  | .local _ .vmem, ⟨3, _⟩ => ⟨S1x64, .f32⟩
  | .local _ .vmem, ⟨4, _⟩ => ⟨S4x4096x8192, .fp8e4m3⟩
  | .local _ .vmem, ⟨5, _⟩ => ⟨S1x64, .f32⟩
  | .local _ .vmem, ⟨6, _⟩ => ⟨S4x4096x8192, .bf16⟩
  | _, _ => ⟨S4x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4096x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x4096x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Trips.lean ====
/-
  What the trips of a counted loop leave in a buffer they store into: the contents before trip `k`, by recursion on the
  stores of one trip; and how such contents read, for a loop that stores the whole buffer every trip and for a loop
  that stores one block of it per trip.
-/
module

public import Idealize.ShloMosaic.Lib.Pipeline.FrameBody
public import Idealize.ShloMosaic.Lib.Pipeline.Value

@[expose] public section

noncomputable section

namespace Cert.Trips

open Idealize.ShloMosaic

variable {Val : EltTy → Type} {sig : RefSig} {κ : Kind} {sp : Space} {s : Shape} {e : EltTy}

/-- The contents before trip `k` of `n` trips from the contents `G`, trip `k` storing the pieces `st k f` over the
    contents `f` it finds; past the last trip nothing changes. -/
def iterW (v : View sig κ sp s e) (n : ℕ) (st : Fin n → v.ty.Contents Val → List (View.Piece Val s e))
    (G : v.ty.Contents Val) : ℕ → v.ty.Contents Val
  | 0 => G
  | k + 1 => if h : k < n then v.writes Val (iterW v n st G k) (st ⟨k, h⟩ (iterW v n st G k)) else iterW v n st G k

theorem iterW_zero (v : View sig κ sp s e) (n : ℕ) (st : Fin n → v.ty.Contents Val → List (View.Piece Val s e))
    (G : v.ty.Contents Val) : iterW v n st G 0 = G := rfl

theorem iterW_succ (v : View sig κ sp s e) (n : ℕ) (st : Fin n → v.ty.Contents Val → List (View.Piece Val s e))
    (G : v.ty.Contents Val) (k : Fin n) :
    iterW v n st G (k.val + 1) = v.writes Val (iterW v n st G k.val) (st k (iterW v n st G k.val)) := by
  rw [iterW, dif_pos k.isLt]

/-- The same recursion over plain values. -/
def iterV {α : Type} (n : ℕ) (st : Fin n → α → α) (a : α) : ℕ → α
  | 0 => a
  | k + 1 => if h : k < n then st ⟨k, h⟩ (iterV n st a k) else iterV n st a k

theorem iterV_zero {α : Type} (n : ℕ) (st : Fin n → α → α) (a : α) : iterV n st a 0 = a := rfl
theorem iterV_succ {α : Type} (n : ℕ) (st : Fin n → α → α) (a : α) (k : Fin n) :
    iterV n st a (k.val + 1) = st k (iterV n st a k.val) := by
  rw [iterV, dif_pos k.isLt]

/-- One store through the whole buffer leaves its payload, read back. -/
theorem read_write_whole [∀ e, Nonempty (Val e)] (v : View sig κ sp s e) (f : v.ty.Contents Val) {off : Fin s.rank → ℕ}
    (h : off = fun _ => 0) (inb : ∀ a, off a + s.size a ≤ s.size a) (w : s.Idx → Val e) :
    v.read Val (v.writes Val f [(⟨Rect.unit off s.size inb, w⟩ : View.Piece Val s e)]) = w := by
  rw [View.read_writes_eq_canon _ _ _ fun y => ⟨_, List.mem_singleton_self _, View.mem_set_unit_zero h inb y⟩,
    View.canon_unit_zero h inb]

/-- A load through the whole buffer reads the contents. -/
theorem readAt_whole (v : View sig κ sp s e) (f : v.ty.Contents Val) {off : Fin s.rank → ℕ}
    (h : off = fun _ => 0) (inb : ∀ a, off a + s.size a ≤ s.size a) :
    v.readAt Val (Rect.unit off s.size inb).toLoadRect f = v.read Val f :=
  View.ld_unit_zero h inb (v.read Val f)

/-- A loop whose every trip stores the whole buffer, from what it loaded of the whole buffer: the contents read are the
    recursion over values. -/
theorem read_iterW_whole [∀ e, Nonempty (Val e)] (v : View sig κ sp s e) (n : ℕ) {off : Fin s.rank → ℕ}
    (h : off = fun _ => 0) (inb : ∀ a, off a + s.size a ≤ s.size a) (st : Fin n → (s.Idx → Val e) → (s.Idx → Val e))
    (G : v.ty.Contents Val) (k : ℕ) :
    v.read Val (iterW v n (fun k f => [(⟨Rect.unit off s.size inb,
        st k (v.readAt Val (Rect.unit off s.size inb).toLoadRect f)⟩ : View.Piece Val s e)]) G k)
      = iterV n st (v.read Val G) k := by
  induction k with
  | zero => rfl
  | succ k ih =>
    by_cases hk : k < n
    · rw [iterW_succ v n _ G ⟨k, hk⟩, read_write_whole v _ h inb, readAt_whole v _ h inb, iterV_succ n st _ ⟨k, hk⟩, ih]
    · rw [iterW, dif_neg hk, iterV, dif_neg hk, ih]

/-- A loop that stores one piece per trip: a load through a box that meets none of the pieces reads what the buffer
    held before the loop; -/
theorem ld_iterW_disjoint (v : View sig κ sp s e) (n : ℕ) (pc : Fin n → View.Piece Val s e)
    (G : v.ty.Contents Val) (B : Rect s) (hB : ∀ k, ∀ y ∈ B.set, y ∉ (pc k).1.set) (k : ℕ) :
    View.ld (v.read Val (iterW v n (fun k _ => [pc k]) G k)) B = View.ld (v.read Val G) B := by
  induction k with
  | zero => rfl
  | succ k ih =>
    by_cases hk : k < n
    · rw [iterW_succ v n _ G ⟨k, hk⟩, ← ih]
      funext x
      exact View.read_writes_cons_miss _ _ _ _ _ (hB ⟨k, hk⟩ _ (B.idx_mem x))
    · rw [iterW, dif_neg hk, ih]

/-- and a load through the box of trip `j`'s piece, the pieces of different trips being disjoint, reads that piece's
    payload at any later trip. -/
theorem ld_iterW_piece (v : View sig κ sp s e) (n : ℕ) (pc : Fin n → View.Piece Val s e)
    (G : v.ty.Contents Val) (hd : ∀ j k, j ≠ k → ∀ y ∈ (pc j).1.set, y ∉ (pc k).1.set) (j : Fin n) (k : ℕ) (hk : j.val < k) :
    View.ld (v.read Val (iterW v n (fun k _ => [pc k]) G k)) (pc j).1 = (pc j).2 := by
  induction k with
  | zero => omega
  | succ k ih =>
    by_cases hkn : k < n
    · rw [iterW_succ v n _ G ⟨k, hkn⟩]
      by_cases hjk : j.val = k
      · obtain rfl : j = ⟨k, hkn⟩ := Fin.ext hjk
        funext x
        exact View.read_writes_cons_emb _ _ _ _ _ x
      · rw [← ih (by omega)]
        funext x
        exact View.read_writes_cons_miss _ _ _ _ _ (hd j ⟨k, hkn⟩ (fun h => hjk (congrArg Fin.val h)) _ ((pc j).1.idx_mem x))
    · rw [iterW, dif_neg hkn, ih (by omega)]

end Cert.Trips

end
-- ==== Proof.BodyKernel.lean ====
/-
  The body of the attention kernel in machine arithmetic: what its loops leave in the scratch buffers, and what it leaves in the
  result's staging buffer, as a function of the blocks it is given.
-/
module

public import proofs.«01_k».proof.Proof.Gen.Kernel.Frame
public import proofs.«01_k».proof.Proof.Gen.Kernel.Skeleton
public import proofs.«01_k».proof.Proof.Gen.Kernel.Loops
public import proofs.«01_k».proof.Proof.Trips
public import Idealize.ShloMosaic.Lib.Claim

@[expose] public section

noncomputable section

namespace Cert.Kernel.Body

open Cert.Kernel Cert.Kernel.Gen Cert.Trips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Offsets and trip counts -/

variable (i : grid0.Coords)

/-- The rectangle of a whole 256x128 scratch buffer. -/
abbrev rS : Rect S256x128 := Rect.unit (s := S256x128) ![0, 0] S256x128.size inb_S256x128_S256x128_0_0
theorem zero2 : (![0, 0] : Fin 2 → ℕ) = fun _ => 0 := by decide
theorem zero3 : (![0, 0, 0] : Fin 3 → ℕ) = fun _ => 0 := by decide

/-- The rectangles of the loads and stores of trip `k` of the loops. -/
abbrev r2 : Rect S1x4096x128 := Rect.unit (s := S1x4096x128) (k0_off2 i) S1x256x128.size (k0_off2_inb i)
abbrev r3 : Rect S16x256x256 := Rect.unit (s := S16x256x256) (k0_off3 i) S1x256x256.size (k0_off3_inb i)
abbrev r4 (k : Fin (k0_t1_loop i).trips) : Rect S1x4096x128 := Rect.unit (s := S1x4096x128) (k0_off4 i k) S1x256x128.size (k0_off4_inb i k)
abbrev r5 (k : Fin (k0_t1_loop i).trips) : Rect S16x256x256 := Rect.unit (s := S16x256x256) (k0_off5 i k) S1x256x256.size (k0_off5_inb i k)
abbrev r8 (k : Fin (k0_t3_loop i).trips) : Rect S16x256x256 := Rect.unit (s := S16x256x256) (k0_off8 i k) S1x256x256.size (k0_off8_inb i k)
abbrev r9 (k : Fin (k0_t3_loop i).trips) : Rect S1x4096x128 := Rect.unit (s := S1x4096x128) (k0_off9 i k) S1x256x128.size (k0_off9_inb i k)

theorem trips1 : (k0_t1_loop i).trips = (i 2).val := by
  show Scf.trips _ _ _ = _
  generalize hq : i 2 = q
  dsimp only [k0_t1_loop]; rw [hq]; clear hq
  revert q; decide
theorem trips2 : (k0_t2_loop i).trips = 0 := Nat.le_zero.mp (k0_t2_abs i).2.1
theorem trips3 : (k0_t3_loop i).trips = (i 2).val + 1 := by
  show Scf.trips _ _ _ = _
  generalize hq : i 2 = q
  dsimp only [k0_t3_loop]; rw [hq]; clear hq
  revert q; decide
theorem trips4 : (k0_t4_loop i).trips = 0 := Nat.le_zero.mp (k0_t4_abs i).2.1

theorem lt16 (q : Fin 16) : q.val < 16 := q.isLt

theorem off1 : k0_off1 i = ![(i 1).val] := by
  generalize hq : i 1 = q
  dsimp only [k0_off1]; rw [hq]; clear hq
  revert q; decide
theorem off2 : k0_off2 i = ![0, 256 * (i 2).val, 0] := by
  generalize hq : i 2 = q
  dsimp only [k0_off2]; rw [hq]; clear hq
  revert q; decide
theorem off3 : k0_off3 i = ![(i 2).val, 0, 0] := by
  generalize hq : i 2 = q
  dsimp only [k0_off3]; rw [hq]; clear hq
  revert q; decide

/-- The block offsets at trip `k` below 16, as the loops compute them. -/
theorem row_trip (k : ℕ) (hk : k < 16) : (![(Scalar.indexCast (Scf.iv 0#32 1#32 k)).toNat, (0#32 : Index).toNat, (0#32 : Index).toNat] : Fin 3 → ℕ) = ![k, 0, 0] := by
  have h : ∀ k : Fin 16, (![(Scalar.indexCast (Scf.iv 0#32 1#32 k.val)).toNat, (0#32 : Index).toNat, (0#32 : Index).toNat] : Fin 3 → ℕ) = ![k.val, 0, 0] := by decide
  exact h ⟨k, hk⟩
theorem blk_trip (k : ℕ) (hk : k < 16) : (![(0#32 : Index).toNat, (Scalar.indexCast (Scalar.muli (Scf.iv 0#32 1#32 k) 256#32)).toNat, (0#32 : Index).toNat] : Fin 3 → ℕ) = ![0, 256 * k, 0] := by
  have h : ∀ k : Fin 16, (![(0#32 : Index).toNat, (Scalar.indexCast (Scalar.muli (Scf.iv 0#32 1#32 k.val) 256#32)).toNat, (0#32 : Index).toNat] : Fin 3 → ℕ) = ![0, 256 * k.val, 0] := by decide
  exact h ⟨k, hk⟩

theorem trip1_lt (k : Fin (k0_t1_loop i).trips) : k.val < (i 2).val := lt_of_lt_of_eq k.isLt (trips1 i)
theorem trip3_lt (k : Fin (k0_t3_loop i).trips) : k.val < (i 2).val + 1 := lt_of_lt_of_eq k.isLt (trips3 i)

theorem off4 (k : Fin (k0_t1_loop i).trips) : k0_off4 i k = ![0, 256 * k.val, 0] := by
  have := trip1_lt i k; have := lt16 (i 2)
  exact blk_trip k.val (by omega)
theorem off5 (k : Fin (k0_t1_loop i).trips) : k0_off5 i k = ![k.val, 0, 0] := by
  have := trip1_lt i k; have := lt16 (i 2)
  exact row_trip k.val (by omega)
theorem off8 (k : Fin (k0_t3_loop i).trips) : k0_off8 i k = ![k.val, 0, 0] := by
  have := trip3_lt i k; have := lt16 (i 2)
  exact row_trip k.val (by omega)
theorem off9 (k : Fin (k0_t3_loop i).trips) : k0_off9 i k = ![0, 256 * k.val, 0] := by
  have := trip3_lt i k; have := lt16 (i 2)
  exact blk_trip k.val (by omega)

/-! ## What one trip stores -/

section Trip
variable (arg6 : Memref sig .tc .vmem S1x4096x128 .fp8e4m3) (arg7 : Memref sig .tc .vmem S1x4096x128 .fp8e4m3)
  (arg9 : Memref sig .tc .vmem S16x256x256 .f32) (arg10 : Memref sig .tc .vmem S256x128 .f32) (arg11 : Memref sig .tc .vmem S256x128 .f32)
  (v1 : Elt F .f32) (v2 : Vec F S1x256x128 .fp8e4m3) (v35 : Vec F S256x128 .f32)
  (X6 : BufTy.Contents (Elt F) arg6.view.ty) (X7 : BufTy.Contents (Elt F) arg7.view.ty) (X9 : BufTy.Contents (Elt F) arg9.view.ty)

/-- Score loop, trip `k`: the block of exponentials stored, -/
abbrev p9_1 (k : Fin (k0_t1_loop i).trips) : View.Piece (Elt F) S16x256x256 .f32 :=
  ⟨r5 i k, k0_pay11 v1 v2 (arg6.view.readAt (Elt F) (r4 i k).toLoadRect X6)⟩
/-- and the lane sums, from what the trip finds. -/
abbrev p10_1 (k : Fin (k0_t1_loop i).trips) (f : BufTy.Contents (Elt F) arg10.view.ty) : List (View.Piece (Elt F) S256x128 .f32) :=
  [⟨rS, k0_pay12 v1 v2 (arg6.view.readAt (Elt F) (r4 i k).toLoadRect X6) (arg10.view.readAt (Elt F) rS.toLoadRect f)⟩]
/-- Weight loop, trip `k`: the accumulator. -/
abbrev p11_3 (k : Fin (k0_t3_loop i).trips) (f : BufTy.Contents (Elt F) arg11.view.ty) : List (View.Piece (Elt F) S256x128 .f32) :=
  [⟨rS, k0_pay3 v35 (arg9.view.readAt (Elt F) (r8 i k).toLoadRect X9) (arg7.view.readAt (Elt F) (r9 i k).toLoadRect X7) (arg11.view.readAt (Elt F) rS.toLoadRect f)⟩]

end Trip

/-! ## The loops' invariants -/

set_option warn.classDefReducibility false

/-- Score loop: before trip `k` the keys are unread, the exponentials and the lane sums are what `k` trips leave. -/
@[sl_loop] def inv1 (𝒱 : Variants) (c : Dev nD) (bd : Option 𝒱.V) (E : Set ℕ) (i : grid0.Coords) (arg3 : Memref sig .tc .smem S64 .f32) (harg3 : arg3.IsWhole) (arg4 : Memref sig .tc .smem S64 .f32) (harg4 : arg4.IsWhole) (arg5 : Memref sig .tc .vmem S1x256x128 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x256x128 .bf16) (harg8 : arg8.IsWhole) (arg9 : Memref sig .tc .vmem S16x256x256 .f32) (harg9 : arg9.IsWhole) (arg10 : Memref sig .tc .vmem S256x128 .f32) (harg10 : arg10.IsWhole) (arg11 : Memref sig .tc .vmem S256x128 .f32) (harg11 : arg11.IsWhole) (v1 : Elt F .f32) (v2 : Vec F S1x256x128 .fp8e4m3)
    (X6 : BufTy.Contents (Elt F) arg6.view.ty) (G9 : BufTy.Contents (Elt F) arg9.view.ty) (G10 : BufTy.Contents (Elt F) arg10.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 v1 v2 where
  inv k _ := iprop((arg6.view.loc (c : Thread nD τ) ↦[arg6.view.set]{fullShare} X6)
    ∗ (∃ f, (arg9.view.loc (c : Thread nD τ) ↦[arg9.view.set]{fullShare} f) ∗ ⌜f = iterW arg9.view (k0_t1_loop i).trips (fun k _ => [p9_1 i arg6 v1 v2 X6 k]) G9 k⌝)
    ∗ (∃ f, (arg10.view.loc (c : Thread nD τ) ↦[arg10.view.set]{fullShare} f) ∗ ⌜f = iterW arg10.view (k0_t1_loop i).trips (p10_1 i arg6 arg10 v1 v2 X6) G10 k⌝))
  step k acc := by
    unfold k0_t1_body
    iintro ⟨H6, ⟨%f9, H9, %h9⟩, ⟨%f10, H10, %h10⟩⟩
    sl_exec
    sl_step
    isplitl [H6]; · iexact H6
    isplitl [H9]
    · iexists _; isplitl [H9]; · iexact H9
      ipureintro; rw [iterW_succ, ← h9]
    · iexists _; isplitl [H10]; · iexact H10
      ipureintro; rw [iterW_succ, ← h10]

/-- Its remainder loop runs no trip. -/
@[sl_loop] def inv2 (𝒱 : Variants) (c : Dev nD) (bd : Option 𝒱.V) (E : Set ℕ) (i : grid0.Coords) (arg3 : Memref sig .tc .smem S64 .f32) (harg3 : arg3.IsWhole) (arg4 : Memref sig .tc .smem S64 .f32) (harg4 : arg4.IsWhole) (arg5 : Memref sig .tc .vmem S1x256x128 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x256x128 .bf16) (harg8 : arg8.IsWhole) (arg9 : Memref sig .tc .vmem S16x256x256 .f32) (harg9 : arg9.IsWhole) (arg10 : Memref sig .tc .vmem S256x128 .f32) (harg10 : arg10.IsWhole) (arg11 : Memref sig .tc .vmem S256x128 .f32) (harg11 : arg11.IsWhole) (v1 : Elt F .f32) (v2 : Vec F S1x256x128 .fp8e4m3) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 v1 v2 :=
  LoopInv.ofNoTrips _ _ _ _ _ _ _ _ _ (trips2 i)

/-- Weight loop: before trip `k` the exponentials and the values are as they were, the accumulator what `k` trips leave. -/
@[sl_loop] def inv3 (𝒱 : Variants) (c : Dev nD) (bd : Option 𝒱.V) (E : Set ℕ) (i : grid0.Coords) (arg3 : Memref sig .tc .smem S64 .f32) (harg3 : arg3.IsWhole) (arg4 : Memref sig .tc .smem S64 .f32) (harg4 : arg4.IsWhole) (arg5 : Memref sig .tc .vmem S1x256x128 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x256x128 .bf16) (harg8 : arg8.IsWhole) (arg9 : Memref sig .tc .vmem S16x256x256 .f32) (harg9 : arg9.IsWhole) (arg10 : Memref sig .tc .vmem S256x128 .f32) (harg10 : arg10.IsWhole) (arg11 : Memref sig .tc .vmem S256x128 .f32) (harg11 : arg11.IsWhole) (v35 : Vec F S256x128 .f32)
    (X7 : BufTy.Contents (Elt F) arg7.view.ty) (X9 : BufTy.Contents (Elt F) arg9.view.ty) (G11 : BufTy.Contents (Elt F) arg11.view.ty) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 v35 where
  inv k _ := iprop((arg7.view.loc (c : Thread nD τ) ↦[arg7.view.set]{fullShare} X7)
    ∗ (arg9.view.loc (c : Thread nD τ) ↦[arg9.view.set]{fullShare} X9)
    ∗ (∃ f, (arg11.view.loc (c : Thread nD τ) ↦[arg11.view.set]{fullShare} f) ∗ ⌜f = iterW arg11.view (k0_t3_loop i).trips (p11_3 i arg7 arg9 arg11 v35 X7 X9) G11 k⌝))
  step k acc := by
    unfold k0_t3_body
    iintro ⟨H7, H9, ⟨%f11, H11, %h11⟩⟩
    sl_exec
    sl_step
    isplitl [H7]; · iexact H7
    isplitl [H9]; · iexact H9
    iexists _; isplitl [H11]; · iexact H11
    ipureintro; rw [iterW_succ, ← h11]

/-- Its remainder loop runs no trip. -/
@[sl_loop] def inv4 (𝒱 : Variants) (c : Dev nD) (bd : Option 𝒱.V) (E : Set ℕ) (i : grid0.Coords) (arg3 : Memref sig .tc .smem S64 .f32) (harg3 : arg3.IsWhole) (arg4 : Memref sig .tc .smem S64 .f32) (harg4 : arg4.IsWhole) (arg5 : Memref sig .tc .vmem S1x256x128 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x256x128 .bf16) (harg8 : arg8.IsWhole) (arg9 : Memref sig .tc .vmem S16x256x256 .f32) (harg9 : arg9.IsWhole) (arg10 : Memref sig .tc .vmem S256x128 .f32) (harg10 : arg10.IsWhole) (arg11 : Memref sig .tc .vmem S256x128 .f32) (harg11 : arg11.IsWhole) (v35 : Vec F S256x128 .f32) :
    LoopInvTy_k0_t4 (F := F) Unit ℕ (UR sig nD τ) ℕ 𝒱 c bd E i arg3 harg3 arg4 harg4 arg5 harg5 arg6 harg6 arg7 harg7 arg8 harg8 arg9 harg9 arg10 harg10 arg11 harg11 v35 :=
  LoopInv.ofNoTrips _ _ _ _ _ _ _ _ _ (trips4 i)

/-! ## The block the body computes -/

section Out
variable (x0 x1 : Vec F S64 .f32) (x2 : Vec F S1x256x128 .fp8e4m3) (x3 x4 : Vec F S1x4096x128 .fp8e4m3)

/-- The scale word a body reads off a table of 64: the head's. -/
abbrev word (x : Vec F S64 .f32) : Elt F .f32 := x ((Rect.unit (s := S64) (k0_off1 i) S1.size (k0_off1_inb i)).point numel1_S1)

/-- The exponentials of key block `k`, at the scale word `w`: plain before the diagonal, masked on it. -/
def expBlk (w : Elt F .f32) (k : Fin (k0_t3_loop i).trips) : Vec F S1x256x256 .f32 :=
  if h : k.val < (k0_t1_loop i).trips then k0_pay11 w x2 (View.ld x3 (r4 i ⟨k.val, h⟩))
  else k0_pay8 w x2 (View.ld x3 (r2 i))

/-- The lane sums after the score loop's trips. -/
def lanes (w : Elt F .f32) : Vec F S256x128 .f32 :=
  iterV (k0_t1_loop i).trips (fun k l => k0_pay12 w x2 (View.ld x3 (r4 i k)) l)
    (k0_pay9 w x2 (View.ld x3 (r2 i))) (k0_t1_loop i).trips

/-- The accumulator after the weight loop's trips. -/
def accum (w : Elt F .f32) : Vec F S256x128 .f32 :=
  iterV (k0_t3_loop i).trips (fun k a => k0_pay3 (lanes i x2 x3 w) (expBlk i x2 x3 w k) (View.ld x4 (r9 i k)) a)
    (k0_pay2 (F := F)) (k0_t3_loop i).trips

/-- The block of the result the body leaves. -/
def bodyOut : Vec F S1x256x128 .bf16 := k0_pay5 (accum i x2 x3 x4 (word i x0)) (word i x1)

end Out

/-! ## What the scratch buffers read after the loops -/

section Read
variable (arg6 : Memref sig .tc .vmem S1x4096x128 .fp8e4m3) (arg7 : Memref sig .tc .vmem S1x4096x128 .fp8e4m3)
  (arg9 : Memref sig .tc .vmem S16x256x256 .f32) (arg10 : Memref sig .tc .vmem S256x128 .f32) (arg11 : Memref sig .tc .vmem S256x128 .f32)
  (w : Elt F .f32) (x2 : Vec F S1x256x128 .fp8e4m3) (v35 : Vec F S256x128 .f32)
  (f6 : BufTy.Contents (Elt F) arg6.view.ty) (f7 : BufTy.Contents (Elt F) arg7.view.ty) (f9 : BufTy.Contents (Elt F) arg9.view.ty)
  (f10 : BufTy.Contents (Elt F) arg10.view.ty) (f11 : BufTy.Contents (Elt F) arg11.view.ty)

/-- The lane sums' buffer after the score loop. -/
theorem read_lanes :
    arg10.view.readAt (Elt F) rS.toLoadRect (iterW arg10.view (k0_t1_loop i).trips (p10_1 i arg6 arg10 w x2 f6)
        (arg10.view.writes (Elt F) f10 [⟨rS, k0_pay9 w x2 (arg6.view.readAt (Elt F) (r2 i).toLoadRect f6)⟩]) (k0_t1_loop i).trips)
      = lanes i x2 (arg6.view.read (Elt F) f6) w := by
  rw [readAt_whole _ _ zero2]
  refine (read_iterW_whole arg10.view _ zero2 inb_S256x128_S256x128_0_0
    (fun k l => k0_pay12 w x2 (arg6.view.readAt (Elt F) (r4 i k).toLoadRect f6) l) _ _).trans ?_
  rw [read_write_whole _ _ zero2]
  rfl

/-- The exponentials' buffer after the score loop. -/
abbrev expBuf : BufTy.Contents (Elt F) arg9.view.ty :=
  iterW arg9.view (k0_t1_loop i).trips (fun k _ => [p9_1 i arg6 w x2 f6 k])
    (arg9.view.writes (Elt F) f9 [⟨r3 i, k0_pay8 w x2 (arg6.view.readAt (Elt F) (r2 i).toLoadRect f6)⟩]) (k0_t1_loop i).trips

/-- Two blocks of rows of the exponentials' buffer at different row numbers share no element. -/
theorem row_disjoint {o o' : Fin 3 → ℕ} (a b : ℕ) (ho : o = ![a, 0, 0]) (ho' : o' = ![b, 0, 0]) (hab : a ≠ b)
    (h : ∀ x, o x + S1x256x256.size x ≤ S16x256x256.size x) (h' : ∀ x, o' x + S1x256x256.size x ≤ S16x256x256.size x) :
    ∀ y ∈ (Rect.unit (s := S16x256x256) o S1x256x256.size h).set, y ∉ (Rect.unit (s := S16x256x256) o' S1x256x256.size h').set := by
  subst ho ho'
  intro y hy hy'
  have h1 := Rect.mem_set_unit.mp hy 0
  have h2 := Rect.mem_set_unit.mp hy' 0
  simp only [Matrix.cons_val_zero] at h1 h2
  have e : S1x256x256.size 0 = 1 := rfl
  exact hab (le_antisymm (Nat.lt_succ_iff.mp (lt_of_le_of_lt h1.1 h2.2)) (Nat.lt_succ_iff.mp (lt_of_le_of_lt h2.1 h1.2)))

/-- Loads at equal offsets read the same. -/
theorem ld_congr (X : Vec F S16x256x256 .f32) {o o' : Fin 3 → ℕ} (h : o = o')
    (hi : ∀ x, o x + S1x256x256.size x ≤ S16x256x256.size x) (hi' : ∀ x, o' x + S1x256x256.size x ≤ S16x256x256.size x) :
    (View.ld X (Rect.unit (s := S16x256x256) o S1x256x256.size hi) : Vec F S1x256x256 .f32)
      = View.ld X (Rect.unit (s := S16x256x256) o' S1x256x256.size hi') := by
  subst h; rfl

/-- A block of it, read. -/
theorem read_exp (k : Fin (k0_t3_loop i).trips) :
    arg9.view.readAt (Elt F) (r8 i k).toLoadRect (expBuf i arg6 arg9 w x2 f6 f9)
      = expBlk i x2 (arg6.view.read (Elt F) f6) w k := by
  have hk3 := trip3_lt i k
  unfold expBlk
  split
  · rename_i h
    refine (ld_congr _ ((off8 i k).trans (off5 i ⟨k.val, h⟩).symm) _ (k0_off5_inb i ⟨k.val, h⟩)).trans ?_
    exact ld_iterW_piece arg9.view (k0_t1_loop i).trips (p9_1 i arg6 w x2 f6) _
      (fun j k hjk => row_disjoint j.val k.val (off5 i j) (off5 i k) (fun h => hjk (Fin.ext h)) (k0_off5_inb i j) (k0_off5_inb i k)) ⟨k.val, h⟩ _ h
  · rename_i h
    have hk : k.val = (i 2).val := by
      have := trips1 i
      omega
    refine (ld_congr _ ((off8 i k).trans (by rw [hk, off3])) _ (k0_off3_inb i)).trans ?_
    refine (ld_iterW_disjoint arg9.view (k0_t1_loop i).trips (p9_1 i arg6 w x2 f6) _ (r3 i)
      (fun j => row_disjoint (i 2).val j.val (off3 i) (off5 i j) (ne_of_gt (trip1_lt i j)) (k0_off3_inb i) (k0_off5_inb i j)) _).trans ?_
    funext x
    exact View.read_writes_cons_emb _ _ _ _ _ x

/-- The accumulator after the weight loop. -/
theorem read_accum :
    arg11.view.readAt (Elt F) rS.toLoadRect (iterW arg11.view (k0_t3_loop i).trips
        (p11_3 i arg7 arg9 arg11 (lanes i x2 (arg6.view.read (Elt F) f6) w) f7 (expBuf i arg6 arg9 w x2 f6 f9))
        (arg11.view.writes (Elt F) f11 [⟨rS, k0_pay2 (F := F)⟩]) (k0_t3_loop i).trips)
      = accum i x2 (arg6.view.read (Elt F) f6) (arg7.view.read (Elt F) f7) w := by
  rw [readAt_whole _ _ zero2]
  refine (read_iterW_whole arg11.view _ zero2 inb_S256x128_S256x128_0_0
    (fun k l => k0_pay3 (lanes i x2 (arg6.view.read (Elt F) f6) w) (arg9.view.readAt (Elt F) (r8 i k).toLoadRect (expBuf i arg6 arg9 w x2 f6 f9))
      (arg7.view.readAt (Elt F) (r9 i k).toLoadRect f7) l) _ _).trans ?_
  rw [read_write_whole _ _ zero2]
  simp only [read_exp]
  rfl

end Read

/-! ## The body's run -/

set_option maxHeartbeats 1000000 in
/-- The kernel's body on its blocks: whatever the scratch buffers held, it ends with the inputs as they were and the
    result's buffer at `bodyOut` of the blocks. -/
theorem sound_kernel (c : Dev nD) (E : Set ℕ) (i : grid0.Coords) (arg3 : Memref sig .tc .smem S64 .f32) (harg3 : arg3.IsWhole) (arg4 : Memref sig .tc .smem S64 .f32) (harg4 : arg4.IsWhole) (arg5 : Memref sig .tc .vmem S1x256x128 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x256x128 .bf16) (harg8 : arg8.IsWhole) (arg9 : Memref sig .tc .vmem S16x256x256 .f32) (harg9 : arg9.IsWhole) (arg10 : Memref sig .tc .vmem S256x128 .f32) (harg10 : arg10.IsWhole) (arg11 : Memref sig .tc .vmem S256x128 .f32) (harg11 : arg11.IsWhole)
    (x0 : Vec F S64 .f32) (x1 : Vec F S64 .f32) (x2 : Vec F S1x256x128 .fp8e4m3) (x3 : Vec F S1x4096x128 .fp8e4m3) (x4 : Vec F S1x4096x128 .fp8e4m3) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (bodyOut i x0 x1 x2 x3 x4) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [cc0__attn_kernel_eq_skeleton]; unfold cc0__attn_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf3 hf4 hf5 hf6 hf7
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_write_whole arg8.view f8 zero3 inb_S1x256x128_S1x256x128_0_0_0 _).trans ?_
    have e5 : arg5.view.readAt (Elt F) (Rect.unit ![0, 0, 0] S1x256x128.size inb_S1x256x128_S1x256x128_0_0_0).toLoadRect f5
        = arg5.view.read (Elt F) f5 := readAt_whole _ _ zero3 _
    refine congrArg₂ k0_pay5 ?_ rfl
    rw [← e5, ← read_accum i arg6 arg7 arg9 arg11 _ _ f6 f7 f9 arg11.view.junk, ← read_lanes i arg6 arg10 _ _ f6 arg10.view.junk]
    rfl
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

/-! ## The pipeline's proof data -/

variable (m : (ℓ : Loc nD τ sig) → Buf (Elt F) ℓ) (ρ : Dev nD → PrngReg)

/-- The block the body leaves in the result's buffer at point `t`. -/
def outAt (c : Dev nD) (t : Fin cfg0.N) : Vec F S1x256x128 .bf16 :=
  bodyOut (grid0.coords t) (iblk m c 0 t) (iblk m c 1 t) (iblk m c 2 t) (iblk m c 3 t) (iblk m c 4 t)

/-- The proof data: the arrays as the region finds them, each input's buffer at its block after the body, the result's at
    `outAt`. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks and the scratch buffers anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5]
  unfold outAt Pipeline.ΦA
  rw [scopedRest0_eq]
  iintro ⟨⟨⟨⟨%g9, H9⟩, ⟨%g10, H10⟩, ⟨%g11, H11⟩⟩, HΦ⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  simp only [owns_whole_eq]
  isplitl [H9]; · iexists g9; iexists g9; isplitr; · ipureintro; rfl
                  iexact H9
  isplitl [H10]; · iexists g10; iexists g10; isplitr; · ipureintro; rfl
                   iexact H10
  isplitl [H11]; · iexists g11; iexists g11; isplitr; · ipureintro; rfl
                   iexact H11
  iintro ⟨H0, H1, H2, H3, H4, H5, ⟨%e9, %g9', %h9, H9⟩, ⟨%e10, %g10', %h10, H10⟩, ⟨%e11, %g11', %h11, H11⟩⟩
  isplitl [H9 H10 H11 HΦ]
  · isplitr [HΦ]
    · isplitl [H9]; · iexists _; iexact H9
      isplitl [H10]; · iexists _; iexact H10
      iexists _; iexact H11
    iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
set_option maxHeartbeats 800000 in
/-- From any memory with zero counters every weakly fair execution of @main terminates, with every array of the pipeline at
    what the proof data say, every other buffer as the region found it and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution terminates, leaving the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Body

end
-- ==== Proof.BodyKernelIdeal.lean ====
/-
  The body of the attention kernel, idealized: what its loops leave in the scratch buffers, and what it leaves in the
  result's staging buffer, as a function of the blocks it is given.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Trips
public import Idealize.ShloMosaic.Lib.Claim

@[expose] public section

noncomputable section

namespace Cert.KernelIdeal.Body

open Cert.KernelIdeal Cert.KernelIdeal.Gen Cert.Trips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Offsets and trip counts -/

variable (i : grid0.Coords)

/-- The rectangle of a whole 256x128 scratch buffer. -/
abbrev rS : Rect S256x128 := Rect.unit (s := S256x128) ![0, 0] S256x128.size inb_S256x128_S256x128_0_0
theorem zero2 : (![0, 0] : Fin 2 → ℕ) = fun _ => 0 := by decide
theorem zero3 : (![0, 0, 0] : Fin 3 → ℕ) = fun _ => 0 := by decide

/-- The rectangles of the loads and stores of trip `k` of the loops. -/
abbrev r2 : Rect S1x4096x128 := Rect.unit (s := S1x4096x128) (k0_off2 i) S1x256x128.size (k0_off2_inb i)
abbrev r3 : Rect S16x256x256 := Rect.unit (s := S16x256x256) (k0_off3 i) S1x256x256.size (k0_off3_inb i)
abbrev r4 (k : Fin (k0_t1_loop i).trips) : Rect S1x4096x128 := Rect.unit (s := S1x4096x128) (k0_off4 i k) S1x256x128.size (k0_off4_inb i k)
abbrev r5 (k : Fin (k0_t1_loop i).trips) : Rect S16x256x256 := Rect.unit (s := S16x256x256) (k0_off5 i k) S1x256x256.size (k0_off5_inb i k)
abbrev r8 (k : Fin (k0_t3_loop i).trips) : Rect S16x256x256 := Rect.unit (s := S16x256x256) (k0_off8 i k) S1x256x256.size (k0_off8_inb i k)
abbrev r9 (k : Fin (k0_t3_loop i).trips) : Rect S1x4096x128 := Rect.unit (s := S1x4096x128) (k0_off9 i k) S1x256x128.size (k0_off9_inb i k)

theorem trips1 : (k0_t1_loop i).trips = (i 2).val := by
  show Scf.trips _ _ _ = _
  generalize hq : i 2 = q
  dsimp only [k0_t1_loop]; rw [hq]; clear hq
  revert q; decide
theorem trips2 : (k0_t2_loop i).trips = 0 := Nat.le_zero.mp (k0_t2_abs i).2.1
theorem trips3 : (k0_t3_loop i).trips = (i 2).val + 1 := by
  show Scf.trips _ _ _ = _
  generalize hq : i 2 = q
  dsimp only [k0_t3_loop]; rw [hq]; clear hq
  revert q; decide
theorem trips4 : (k0_t4_loop i).trips = 0 := Nat.le_zero.mp (k0_t4_abs i).2.1

theorem lt16 (q : Fin 16) : q.val < 16 := q.isLt

theorem off1 : k0_off1 i = ![(i 1).val] := by
  generalize hq : i 1 = q
  dsimp only [k0_off1]; rw [hq]; clear hq
  revert q; decide
theorem off2 : k0_off2 i = ![0, 256 * (i 2).val, 0] := by
  generalize hq : i 2 = q
  dsimp only [k0_off2]; rw [hq]; clear hq
  revert q; decide
theorem off3 : k0_off3 i = ![(i 2).val, 0, 0] := by
  generalize hq : i 2 = q
  dsimp only [k0_off3]; rw [hq]; clear hq
  revert q; decide

/-- The block offsets at trip `k` below 16, as the loops compute them. -/
theorem row_trip (k : ℕ) (hk : k < 16) : (![(Scalar.indexCast (Scf.iv 0#32 1#32 k)).toNat, (0#32 : Index).toNat, (0#32 : Index).toNat] : Fin 3 → ℕ) = ![k, 0, 0] := by
  have h : ∀ k : Fin 16, (![(Scalar.indexCast (Scf.iv 0#32 1#32 k.val)).toNat, (0#32 : Index).toNat, (0#32 : Index).toNat] : Fin 3 → ℕ) = ![k.val, 0, 0] := by decide
  exact h ⟨k, hk⟩
theorem blk_trip (k : ℕ) (hk : k < 16) : (![(0#32 : Index).toNat, (Scalar.indexCast (Scalar.muli (Scf.iv 0#32 1#32 k) 256#32)).toNat, (0#32 : Index).toNat] : Fin 3 → ℕ) = ![0, 256 * k, 0] := by
  have h : ∀ k : Fin 16, (![(0#32 : Index).toNat, (Scalar.indexCast (Scalar.muli (Scf.iv 0#32 1#32 k.val) 256#32)).toNat, (0#32 : Index).toNat] : Fin 3 → ℕ) = ![0, 256 * k.val, 0] := by decide
  exact h ⟨k, hk⟩

theorem trip1_lt (k : Fin (k0_t1_loop i).trips) : k.val < (i 2).val := lt_of_lt_of_eq k.isLt (trips1 i)
theorem trip3_lt (k : Fin (k0_t3_loop i).trips) : k.val < (i 2).val + 1 := lt_of_lt_of_eq k.isLt (trips3 i)

theorem off4 (k : Fin (k0_t1_loop i).trips) : k0_off4 i k = ![0, 256 * k.val, 0] := by
  have := trip1_lt i k; have := lt16 (i 2)
  exact blk_trip k.val (by omega)
theorem off5 (k : Fin (k0_t1_loop i).trips) : k0_off5 i k = ![k.val, 0, 0] := by
  have := trip1_lt i k; have := lt16 (i 2)
  exact row_trip k.val (by omega)
theorem off8 (k : Fin (k0_t3_loop i).trips) : k0_off8 i k = ![k.val, 0, 0] := by
  have := trip3_lt i k; have := lt16 (i 2)
  exact row_trip k.val (by omega)
theorem off9 (k : Fin (k0_t3_loop i).trips) : k0_off9 i k = ![0, 256 * k.val, 0] := by
  have := trip3_lt i k; have := lt16 (i 2)
  exact blk_trip k.val (by omega)

/-! ## What one trip stores -/

section Trip
variable (arg6 : Memref sig .tc .vmem S1x4096x128 .fp8e4m3) (arg7 : Memref sig .tc .vmem S1x4096x128 .fp8e4m3)
  (arg9 : Memref sig .tc .vmem S16x256x256 .f32) (arg10 : Memref sig .tc .vmem S256x128 .f32) (arg11 : Memref sig .tc .vmem S256x128 .f32)
  (v1 : Elt F .f32) (v2 : Vec F S1x256x128 .fp8e4m3) (v35 : Vec F S256x128 .f32)
  (X6 : BufTy.Contents (Elt F) arg6.view.ty) (X7 : BufTy.Contents (Elt F) arg7.view.ty) (X9 : BufTy.Contents (Elt F) arg9.view.ty)

/-- Score loop, trip `k`: the block of exponentials stored, -/
abbrev p9_1 (k : Fin (k0_t1_loop i).trips) : View.Piece (Elt F) S16x256x256 .f32 :=
  ⟨r5 i k, k0_pay11 v1 v2 (arg6.view.readAt (Elt F) (r4 i k).toLoadRect X6)⟩
/-- and the lane sums, from what the trip finds. -/
abbrev p10_1 (k : Fin (k0_t1_loop i).trips) (f : BufTy.Contents (Elt F) arg10.view.ty) : List (View.Piece (Elt F) S256x128 .f32) :=
  [⟨rS, k0_pay12 v1 v2 (arg6.view.readAt (Elt F) (r4 i k).toLoadRect X6) (arg10.view.readAt (Elt F) rS.toLoadRect f)⟩]
/-- Weight loop, trip `k`: the accumulator. -/
abbrev p11_3 (k : Fin (k0_t3_loop i).trips) (f : BufTy.Contents (Elt F) arg11.view.ty) : List (View.Piece (Elt F) S256x128 .f32) :=
  [⟨rS, k0_pay3 v35 (arg9.view.readAt (Elt F) (r8 i k).toLoadRect X9) (arg7.view.readAt (Elt F) (r9 i k).toLoadRect X7) (arg11.view.readAt (Elt F) rS.toLoadRect f)⟩]

end Trip

/-! ## The loops' invariants -/

set_option warn.classDefReducibility false

/-- Score loop: before trip `k` the keys are unread, the exponentials and the lane sums are what `k` trips leave. -/
@[sl_loop] def inv1 (𝒱 : Variants) (c : Dev nD) (bd : Option 𝒱.V) (E : Set ℕ) (i : grid0.Coords) (arg3 : Memref sig .tc .smem S64 .f32) (harg3 : arg3.IsWhole) (arg4 : Memref sig .tc .smem S64 .f32) (harg4 : arg4.IsWhole) (arg5 : Memref sig .tc .vmem S1x256x128 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x256x128 .bf16) (harg8 : arg8.IsWhole) (arg9 : Memref sig .tc .vmem S16x256x256 .f32) (harg9 : arg9.IsWhole) (arg10 : Memref sig .tc .vmem S256x128 .f32) (harg10 : arg10.IsWhole) (arg11 : Memref sig .tc .vmem S256x128 .f32) (harg11 : arg11.IsWhole) (v1 : Elt F .f32) (v2 : Vec F S1x256x128 .fp8e4m3)
    (X6 : BufTy.Contents (Elt F) arg6.view.ty) (G9 : BufTy.Contents (Elt F) arg9.view.ty) (G10 : BufTy.Contents (Elt F) arg10.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 v1 v2 where
  inv k _ := iprop((arg6.view.loc (c : Thread nD τ) ↦[arg6.view.set]{fullShare} X6)
    ∗ (∃ f, (arg9.view.loc (c : Thread nD τ) ↦[arg9.view.set]{fullShare} f) ∗ ⌜f = iterW arg9.view (k0_t1_loop i).trips (fun k _ => [p9_1 i arg6 v1 v2 X6 k]) G9 k⌝)
    ∗ (∃ f, (arg10.view.loc (c : Thread nD τ) ↦[arg10.view.set]{fullShare} f) ∗ ⌜f = iterW arg10.view (k0_t1_loop i).trips (p10_1 i arg6 arg10 v1 v2 X6) G10 k⌝))
  step k acc := by
    unfold k0_t1_body
    iintro ⟨H6, ⟨%f9, H9, %h9⟩, ⟨%f10, H10, %h10⟩⟩
    sl_exec
    sl_step
    isplitl [H6]; · iexact H6
    isplitl [H9]
    · iexists _; isplitl [H9]; · iexact H9
      ipureintro; rw [iterW_succ, ← h9]
    · iexists _; isplitl [H10]; · iexact H10
      ipureintro; rw [iterW_succ, ← h10]

/-- Its remainder loop runs no trip. -/
@[sl_loop] def inv2 (𝒱 : Variants) (c : Dev nD) (bd : Option 𝒱.V) (E : Set ℕ) (i : grid0.Coords) (arg3 : Memref sig .tc .smem S64 .f32) (harg3 : arg3.IsWhole) (arg4 : Memref sig .tc .smem S64 .f32) (harg4 : arg4.IsWhole) (arg5 : Memref sig .tc .vmem S1x256x128 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x256x128 .bf16) (harg8 : arg8.IsWhole) (arg9 : Memref sig .tc .vmem S16x256x256 .f32) (harg9 : arg9.IsWhole) (arg10 : Memref sig .tc .vmem S256x128 .f32) (harg10 : arg10.IsWhole) (arg11 : Memref sig .tc .vmem S256x128 .f32) (harg11 : arg11.IsWhole) (v1 : Elt F .f32) (v2 : Vec F S1x256x128 .fp8e4m3) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 v1 v2 :=
  LoopInv.ofNoTrips _ _ _ _ _ _ _ _ _ (trips2 i)

/-- Weight loop: before trip `k` the exponentials and the values are as they were, the accumulator what `k` trips leave. -/
@[sl_loop] def inv3 (𝒱 : Variants) (c : Dev nD) (bd : Option 𝒱.V) (E : Set ℕ) (i : grid0.Coords) (arg3 : Memref sig .tc .smem S64 .f32) (harg3 : arg3.IsWhole) (arg4 : Memref sig .tc .smem S64 .f32) (harg4 : arg4.IsWhole) (arg5 : Memref sig .tc .vmem S1x256x128 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x256x128 .bf16) (harg8 : arg8.IsWhole) (arg9 : Memref sig .tc .vmem S16x256x256 .f32) (harg9 : arg9.IsWhole) (arg10 : Memref sig .tc .vmem S256x128 .f32) (harg10 : arg10.IsWhole) (arg11 : Memref sig .tc .vmem S256x128 .f32) (harg11 : arg11.IsWhole) (v35 : Vec F S256x128 .f32)
    (X7 : BufTy.Contents (Elt F) arg7.view.ty) (X9 : BufTy.Contents (Elt F) arg9.view.ty) (G11 : BufTy.Contents (Elt F) arg11.view.ty) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 v35 where
  inv k _ := iprop((arg7.view.loc (c : Thread nD τ) ↦[arg7.view.set]{fullShare} X7)
    ∗ (arg9.view.loc (c : Thread nD τ) ↦[arg9.view.set]{fullShare} X9)
    ∗ (∃ f, (arg11.view.loc (c : Thread nD τ) ↦[arg11.view.set]{fullShare} f) ∗ ⌜f = iterW arg11.view (k0_t3_loop i).trips (p11_3 i arg7 arg9 arg11 v35 X7 X9) G11 k⌝))
  step k acc := by
    unfold k0_t3_body
    iintro ⟨H7, H9, ⟨%f11, H11, %h11⟩⟩
    sl_exec
    sl_step
    isplitl [H7]; · iexact H7
    isplitl [H9]; · iexact H9
    iexists _; isplitl [H11]; · iexact H11
    ipureintro; rw [iterW_succ, ← h11]

/-- Its remainder loop runs no trip. -/
@[sl_loop] def inv4 (𝒱 : Variants) (c : Dev nD) (bd : Option 𝒱.V) (E : Set ℕ) (i : grid0.Coords) (arg3 : Memref sig .tc .smem S64 .f32) (harg3 : arg3.IsWhole) (arg4 : Memref sig .tc .smem S64 .f32) (harg4 : arg4.IsWhole) (arg5 : Memref sig .tc .vmem S1x256x128 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x256x128 .bf16) (harg8 : arg8.IsWhole) (arg9 : Memref sig .tc .vmem S16x256x256 .f32) (harg9 : arg9.IsWhole) (arg10 : Memref sig .tc .vmem S256x128 .f32) (harg10 : arg10.IsWhole) (arg11 : Memref sig .tc .vmem S256x128 .f32) (harg11 : arg11.IsWhole) (v35 : Vec F S256x128 .f32) :
    LoopInvTy_k0_t4 (F := F) Unit ℕ (UR sig nD τ) ℕ 𝒱 c bd E i arg3 harg3 arg4 harg4 arg5 harg5 arg6 harg6 arg7 harg7 arg8 harg8 arg9 harg9 arg10 harg10 arg11 harg11 v35 :=
  LoopInv.ofNoTrips _ _ _ _ _ _ _ _ _ (trips4 i)

/-! ## The block the body computes -/

section Out
variable (x0 x1 : Vec F S64 .f32) (x2 : Vec F S1x256x128 .fp8e4m3) (x3 x4 : Vec F S1x4096x128 .fp8e4m3)

/-- The scale word a body reads off a table of 64: the head's. -/
abbrev word (x : Vec F S64 .f32) : Elt F .f32 := x ((Rect.unit (s := S64) (k0_off1 i) S1.size (k0_off1_inb i)).point numel1_S1)

/-- The exponentials of key block `k`, at the scale word `w`: plain before the diagonal, masked on it. -/
def expBlk (w : Elt F .f32) (k : Fin (k0_t3_loop i).trips) : Vec F S1x256x256 .f32 :=
  if h : k.val < (k0_t1_loop i).trips then k0_pay11 w x2 (View.ld x3 (r4 i ⟨k.val, h⟩))
  else k0_pay8 w x2 (View.ld x3 (r2 i))

/-- The lane sums after the score loop's trips. -/
def lanes (w : Elt F .f32) : Vec F S256x128 .f32 :=
  iterV (k0_t1_loop i).trips (fun k l => k0_pay12 w x2 (View.ld x3 (r4 i k)) l)
    (k0_pay9 w x2 (View.ld x3 (r2 i))) (k0_t1_loop i).trips

/-- The accumulator after the weight loop's trips. -/
def accum (w : Elt F .f32) : Vec F S256x128 .f32 :=
  iterV (k0_t3_loop i).trips (fun k a => k0_pay3 (lanes i x2 x3 w) (expBlk i x2 x3 w k) (View.ld x4 (r9 i k)) a)
    (k0_pay2 (F := F)) (k0_t3_loop i).trips

/-- The block of the result the body leaves. -/
def bodyOut : Vec F S1x256x128 .bf16 := k0_pay5 (accum i x2 x3 x4 (word i x0)) (word i x1)

end Out

/-! ## What the scratch buffers read after the loops -/

section Read
variable (arg6 : Memref sig .tc .vmem S1x4096x128 .fp8e4m3) (arg7 : Memref sig .tc .vmem S1x4096x128 .fp8e4m3)
  (arg9 : Memref sig .tc .vmem S16x256x256 .f32) (arg10 : Memref sig .tc .vmem S256x128 .f32) (arg11 : Memref sig .tc .vmem S256x128 .f32)
  (w : Elt F .f32) (x2 : Vec F S1x256x128 .fp8e4m3) (v35 : Vec F S256x128 .f32)
  (f6 : BufTy.Contents (Elt F) arg6.view.ty) (f7 : BufTy.Contents (Elt F) arg7.view.ty) (f9 : BufTy.Contents (Elt F) arg9.view.ty)
  (f10 : BufTy.Contents (Elt F) arg10.view.ty) (f11 : BufTy.Contents (Elt F) arg11.view.ty)

/-- The lane sums' buffer after the score loop. -/
theorem read_lanes :
    arg10.view.readAt (Elt F) rS.toLoadRect (iterW arg10.view (k0_t1_loop i).trips (p10_1 i arg6 arg10 w x2 f6)
        (arg10.view.writes (Elt F) f10 [⟨rS, k0_pay9 w x2 (arg6.view.readAt (Elt F) (r2 i).toLoadRect f6)⟩]) (k0_t1_loop i).trips)
      = lanes i x2 (arg6.view.read (Elt F) f6) w := by
  rw [readAt_whole _ _ zero2]
  refine (read_iterW_whole arg10.view _ zero2 inb_S256x128_S256x128_0_0
    (fun k l => k0_pay12 w x2 (arg6.view.readAt (Elt F) (r4 i k).toLoadRect f6) l) _ _).trans ?_
  rw [read_write_whole _ _ zero2]
  rfl

/-- The exponentials' buffer after the score loop. -/
abbrev expBuf : BufTy.Contents (Elt F) arg9.view.ty :=
  iterW arg9.view (k0_t1_loop i).trips (fun k _ => [p9_1 i arg6 w x2 f6 k])
    (arg9.view.writes (Elt F) f9 [⟨r3 i, k0_pay8 w x2 (arg6.view.readAt (Elt F) (r2 i).toLoadRect f6)⟩]) (k0_t1_loop i).trips

/-- Two blocks of rows of the exponentials' buffer at different row numbers share no element. -/
theorem row_disjoint {o o' : Fin 3 → ℕ} (a b : ℕ) (ho : o = ![a, 0, 0]) (ho' : o' = ![b, 0, 0]) (hab : a ≠ b)
    (h : ∀ x, o x + S1x256x256.size x ≤ S16x256x256.size x) (h' : ∀ x, o' x + S1x256x256.size x ≤ S16x256x256.size x) :
    ∀ y ∈ (Rect.unit (s := S16x256x256) o S1x256x256.size h).set, y ∉ (Rect.unit (s := S16x256x256) o' S1x256x256.size h').set := by
  subst ho ho'
  intro y hy hy'
  have h1 := Rect.mem_set_unit.mp hy 0
  have h2 := Rect.mem_set_unit.mp hy' 0
  simp only [Matrix.cons_val_zero] at h1 h2
  have e : S1x256x256.size 0 = 1 := rfl
  exact hab (le_antisymm (Nat.lt_succ_iff.mp (lt_of_le_of_lt h1.1 h2.2)) (Nat.lt_succ_iff.mp (lt_of_le_of_lt h2.1 h1.2)))

/-- Loads at equal offsets read the same. -/
theorem ld_congr (X : Vec F S16x256x256 .f32) {o o' : Fin 3 → ℕ} (h : o = o')
    (hi : ∀ x, o x + S1x256x256.size x ≤ S16x256x256.size x) (hi' : ∀ x, o' x + S1x256x256.size x ≤ S16x256x256.size x) :
    (View.ld X (Rect.unit (s := S16x256x256) o S1x256x256.size hi) : Vec F S1x256x256 .f32)
      = View.ld X (Rect.unit (s := S16x256x256) o' S1x256x256.size hi') := by
  subst h; rfl

/-- A block of it, read. -/
theorem read_exp (k : Fin (k0_t3_loop i).trips) :
    arg9.view.readAt (Elt F) (r8 i k).toLoadRect (expBuf i arg6 arg9 w x2 f6 f9)
      = expBlk i x2 (arg6.view.read (Elt F) f6) w k := by
  have hk3 := trip3_lt i k
  unfold expBlk
  split
  · rename_i h
    refine (ld_congr _ ((off8 i k).trans (off5 i ⟨k.val, h⟩).symm) _ (k0_off5_inb i ⟨k.val, h⟩)).trans ?_
    exact ld_iterW_piece arg9.view (k0_t1_loop i).trips (p9_1 i arg6 w x2 f6) _
      (fun j k hjk => row_disjoint j.val k.val (off5 i j) (off5 i k) (fun h => hjk (Fin.ext h)) (k0_off5_inb i j) (k0_off5_inb i k)) ⟨k.val, h⟩ _ h
  · rename_i h
    have hk : k.val = (i 2).val := by
      have := trips1 i
      omega
    refine (ld_congr _ ((off8 i k).trans (by rw [hk, off3])) _ (k0_off3_inb i)).trans ?_
    refine (ld_iterW_disjoint arg9.view (k0_t1_loop i).trips (p9_1 i arg6 w x2 f6) _ (r3 i)
      (fun j => row_disjoint (i 2).val j.val (off3 i) (off5 i j) (ne_of_gt (trip1_lt i j)) (k0_off3_inb i) (k0_off5_inb i j)) _).trans ?_
    funext x
    exact View.read_writes_cons_emb _ _ _ _ _ x

/-- The accumulator after the weight loop. -/
theorem read_accum :
    arg11.view.readAt (Elt F) rS.toLoadRect (iterW arg11.view (k0_t3_loop i).trips
        (p11_3 i arg7 arg9 arg11 (lanes i x2 (arg6.view.read (Elt F) f6) w) f7 (expBuf i arg6 arg9 w x2 f6 f9))
        (arg11.view.writes (Elt F) f11 [⟨rS, k0_pay2 (F := F)⟩]) (k0_t3_loop i).trips)
      = accum i x2 (arg6.view.read (Elt F) f6) (arg7.view.read (Elt F) f7) w := by
  rw [readAt_whole _ _ zero2]
  refine (read_iterW_whole arg11.view _ zero2 inb_S256x128_S256x128_0_0
    (fun k l => k0_pay3 (lanes i x2 (arg6.view.read (Elt F) f6) w) (arg9.view.readAt (Elt F) (r8 i k).toLoadRect (expBuf i arg6 arg9 w x2 f6 f9))
      (arg7.view.readAt (Elt F) (r9 i k).toLoadRect f7) l) _ _).trans ?_
  rw [read_write_whole _ _ zero2]
  simp only [read_exp]
  rfl

end Read

/-! ## The body's run -/

set_option maxHeartbeats 1000000 in
/-- The kernel's body on its blocks: whatever the scratch buffers held, it ends with the inputs as they were and the
    result's buffer at `bodyOut` of the blocks. -/
theorem sound_kernel (c : Dev nD) (E : Set ℕ) (i : grid0.Coords) (arg3 : Memref sig .tc .smem S64 .f32) (harg3 : arg3.IsWhole) (arg4 : Memref sig .tc .smem S64 .f32) (harg4 : arg4.IsWhole) (arg5 : Memref sig .tc .vmem S1x256x128 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x256x128 .bf16) (harg8 : arg8.IsWhole) (arg9 : Memref sig .tc .vmem S16x256x256 .f32) (harg9 : arg9.IsWhole) (arg10 : Memref sig .tc .vmem S256x128 .f32) (harg10 : arg10.IsWhole) (arg11 : Memref sig .tc .vmem S256x128 .f32) (harg11 : arg11.IsWhole)
    (x0 : Vec F S64 .f32) (x1 : Vec F S64 .f32) (x2 : Vec F S1x256x128 .fp8e4m3) (x3 : Vec F S1x4096x128 .fp8e4m3) (x4 : Vec F S1x4096x128 .fp8e4m3) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (bodyOut i x0 x1 x2 x3 x4) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [cc0__attn_kernel_eq_skeleton]; unfold cc0__attn_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf3 hf4 hf5 hf6 hf7
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_write_whole arg8.view f8 zero3 inb_S1x256x128_S1x256x128_0_0_0 _).trans ?_
    have e5 : arg5.view.readAt (Elt F) (Rect.unit ![0, 0, 0] S1x256x128.size inb_S1x256x128_S1x256x128_0_0_0).toLoadRect f5
        = arg5.view.read (Elt F) f5 := readAt_whole _ _ zero3 _
    refine congrArg₂ k0_pay5 ?_ rfl
    rw [← e5, ← read_accum i arg6 arg7 arg9 arg11 _ _ f6 f7 f9 arg11.view.junk, ← read_lanes i arg6 arg10 _ _ f6 arg10.view.junk]
    rfl
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

/-! ## The pipeline's proof data -/

variable (m : (ℓ : Loc nD τ sig) → Buf (Elt F) ℓ) (ρ : Dev nD → PrngReg)

/-- The block the body leaves in the result's buffer at point `t`. -/
def outAt (c : Dev nD) (t : Fin cfg0.N) : Vec F S1x256x128 .bf16 :=
  bodyOut (grid0.coords t) (iblk m c 0 t) (iblk m c 1 t) (iblk m c 2 t) (iblk m c 3 t) (iblk m c 4 t)

/-- The proof data: the arrays as the region finds them, each input's buffer at its block after the body, the result's at
    `outAt`. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks and the scratch buffers anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5]
  unfold outAt Pipeline.ΦA
  rw [scopedRest0_eq]
  iintro ⟨⟨⟨⟨%g9, H9⟩, ⟨%g10, H10⟩, ⟨%g11, H11⟩⟩, HΦ⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  simp only [owns_whole_eq]
  isplitl [H9]; · iexists g9; iexists g9; isplitr; · ipureintro; rfl
                  iexact H9
  isplitl [H10]; · iexists g10; iexists g10; isplitr; · ipureintro; rfl
                   iexact H10
  isplitl [H11]; · iexists g11; iexists g11; isplitr; · ipureintro; rfl
                   iexact H11
  iintro ⟨H0, H1, H2, H3, H4, H5, ⟨%e9, %g9', %h9, H9⟩, ⟨%e10, %g10', %h10, H10⟩, ⟨%e11, %g11', %h11, H11⟩⟩
  isplitl [H9 H10 H11 HΦ]
  · isplitr [HΦ]
    · isplitl [H9]; · iexists _; iexact H9
      isplitl [H10]; · iexists _; iexact H10
      iexists _; iexact H11
    iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
set_option maxHeartbeats 800000 in
/-- From any memory with zero counters every weakly fair execution of @main terminates, with every array of the pipeline at
    what the proof data say, every other buffer as the region found it and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution terminates, leaving the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Row.lean ====
/-
  One row of soft-capped causal attention on the extended reals: the normalization without a subtracted maximum, as the
  kernel computes it, is the one with it, as the reference does; and the sums over the key blocks up to the diagonal are the
  sums over all keys.
-/
module

public import Idealize.ShloMosaic.PureOps.Ideal
public import Idealize.ShloMosaic.Lib.Pointwise

@[expose] public section

noncomputable section

namespace Cert.Row

open Idealize.ShloMosaic

/-! ## The constants -/

/-- The clip's bounds, as the extended reals their patterns denote: the lower one is not above zero, -/
theorem low_nonpos : Ideal.ofBits .f32 3286237184#32 ≤ 0 := by
  have : Ideal.ofBits .f32 3286237184#32 = ((-448 : ℝ) : EReal) := by
    simp [Ideal.ofBits, Ideal.ieee, -EReal.coe_mul]; norm_num
  rw [this]; exact_mod_cast (by norm_num : (-448 : ℝ) ≤ 0)

/-- the upper one not below. -/
theorem high_nonneg : 0 ≤ Ideal.ofBits .f32 1138753536#32 := by
  have : Ideal.ofBits .f32 1138753536#32 = ((448 : ℝ) : EReal) := by
    simp [Ideal.ofBits, Ideal.ieee, -EReal.coe_mul]; norm_num
  rw [this]; exact_mod_cast (by norm_num : (0 : ℝ) ≤ 448)

/-- The cap denotes the real 50, -/
theorem cap_eq : Ideal.ofBits .f32 1112014848#32 = ((50 : ℝ) : EReal) := by
  simp [Ideal.ofBits, Ideal.ieee, -EReal.coe_mul]; norm_num

/-- and the mask's fill −∞. -/
theorem fill_eq : Ideal.ofBits .f32 4286578688#32 = ⊥ := by
  simp [Ideal.ofBits, Ideal.ieee]

/-! ## Clipping to the codes' range -/

/-- A probability's code before rounding: clipped to the range of the codes. -/
def clip (x : EReal) : EReal := min (Ideal.ofBits .f32 1138753536#32) (max (Ideal.ofBits .f32 3286237184#32) x)

/-- Zero is in the range. -/
theorem clip_zero : clip 0 = 0 := by
  unfold clip; rw [max_eq_right low_nonpos, min_eq_right high_nonneg]

/-! ## The hyperbolic tangent and the exponentials -/

/-- The hyperbolic tangent of an extended real, a real number. -/
def th (z : EReal) : ℝ := (Ideal.tanh z).toReal

theorem tanh_eq (z : EReal) : Ideal.tanh z = ((th z : ℝ) : EReal) := by
  unfold th
  induction z using EReal.rec with
  | bot => rw [Ideal.tanh_bot]; rfl
  | top => rw [Ideal.tanh_top]; rfl
  | coe r => rw [Ideal.tanh_coe, EReal.toReal_coe]

/-- The kernel's exponential of a soft-capped score: two to the power of the hyperbolic tangent times 50 log₂ e. -/
def expo (z : EReal) : EReal := Ideal.exp2 (Ideal.tanh z * ((50 * (Real.log 2)⁻¹ : ℝ) : EReal))

/-- It is the exponential of 50 times the hyperbolic tangent. -/
theorem expo_eq (z : EReal) : expo z = ((Real.exp (50 * th z) : ℝ) : EReal) := by
  have h2 : Real.log 2 ≠ 0 := (Real.log_pos (by norm_num)).ne'
  unfold expo
  rw [tanh_eq, ← EReal.coe_mul, Ideal.exp2_coe]
  have : Real.rpow 2 (th z * (50 * (Real.log 2)⁻¹)) = Real.exp (50 * th z) := by
    show (2 : ℝ) ^ (th z * (50 * (Real.log 2)⁻¹)) = _
    rw [Real.rpow_def_of_pos (by norm_num)]
    congr 1; field_simp
  rw [this]

/-! ## A row of probabilities -/

/-- The kernel's unnormalized probability of key `c` for the query of row `r`: `z c` is the score's argument. -/
def weight (z : Fin 4096 → EReal) (r c : Fin 4096) : EReal := if c ≤ r then expo (z c) else 0

/-- The reference's masked score of key `c`. -/
def score (z : Fin 4096 → EReal) (r c : Fin 4096) : EReal :=
  if c ≤ r then Ideal.ofBits .f32 1112014848#32 * Ideal.tanh (z c) else Ideal.ofBits .f32 4286578688#32

/-- The reference's unnormalized probability: the exponential of the score less the row's maximum. -/
def shifted (z : Fin 4096 → EReal) (r c : Fin 4096) : EReal :=
  Ideal.exp (score z r c - Finset.fold max (Ideal.ofBits .f32 4286578688#32) (score z r) Finset.univ)

/-- The weight, a real number. -/
def weightR (z : Fin 4096 → EReal) (r c : Fin 4096) : ℝ := if c ≤ r then Real.exp (50 * th (z c)) else 0

theorem weight_eq (z : Fin 4096 → EReal) (r c : Fin 4096) : weight z r c = ((weightR z r c : ℝ) : EReal) := by
  unfold weight weightR; split
  · exact expo_eq _
  · rfl

theorem weight_sum (z : Fin 4096 → EReal) (r : Fin 4096) : (∑ c, weight z r c) = ((∑ c, weightR z r c : ℝ) : EReal) := by
  rw [Finset.sum_congr rfl fun c _ => weight_eq z r c]
  exact (map_sum (⟨⟨Real.toEReal, rfl⟩, EReal.coe_add⟩ : ℝ →+ EReal) _ _).symm

theorem score_eq (z : Fin 4096 → EReal) (r c : Fin 4096) :
    score z r c = if c ≤ r then ((50 * th (z c) : ℝ) : EReal) else ⊥ := by
  unfold score; rw [cap_eq, fill_eq, tanh_eq, EReal.coe_mul]

/-- The row's maximum is a real number: every score is below +∞, and the diagonal's is a real. -/
theorem max_real (z : Fin 4096 → EReal) (r : Fin 4096) :
    ∃ M : ℝ, Finset.fold max (Ideal.ofBits .f32 4286578688#32) (score z r) Finset.univ = (M : EReal) := by
  have ht : Finset.fold max (Ideal.ofBits .f32 4286578688#32) (score z r) Finset.univ < ⊤ := by
    rw [Finset.fold_max_lt]
    refine ⟨by rw [fill_eq]; exact bot_lt_top, fun c _ => ?_⟩
    rw [score_eq]; split
    · exact EReal.coe_lt_top _
    · exact bot_lt_top
  have hb : ⊥ < Finset.fold max (Ideal.ofBits .f32 4286578688#32) (score z r) Finset.univ := by
    rw [Finset.lt_fold_max]
    refine .inr ⟨r, Finset.mem_univ _, ?_⟩
    rw [score_eq, if_pos le_rfl]; exact EReal.bot_lt_coe _
  exact ⟨_, (EReal.coe_toReal ht.ne hb.ne').symm⟩

/-- The normalized probability scaled to codes: with and without the maximum subtracted, and whichever factor is divided. -/
theorem normalized_eq (z : Fin 4096 → EReal) (r c : Fin 4096) :
    weight z r c * Ideal.div (Ideal.ofBits .f32 1132462080#32) (∑ c, weight z r c)
      = Ideal.div (shifted z r c) (∑ c, shifted z r c) * Ideal.ofBits .f32 1132462080#32 := by
  obtain ⟨M, hM⟩ := max_real z r
  have hs : ∀ c, shifted z r c = ((weightR z r c * Real.exp (-M) : ℝ) : EReal) := fun c => by
    unfold shifted; rw [hM, score_eq]; unfold weightR; split
    · rw [← EReal.coe_sub, Ideal.exp_coe, sub_eq_add_neg, Real.exp_add]
    · rw [EReal.bot_sub, Ideal.exp_bot, zero_mul]; rfl
  have hS : (∑ c, shifted z r c) = (((∑ c, weightR z r c) * Real.exp (-M) : ℝ) : EReal) := by
    rw [Finset.sum_congr rfl fun c _ => hs c, Finset.sum_mul]
    exact (map_sum (⟨⟨Real.toEReal, rfl⟩, EReal.coe_add⟩ : ℝ →+ EReal) _ _).symm
  have hL : 0 < ∑ c, weightR z r c := by
    refine Finset.sum_pos' (fun c _ => ?_) ⟨r, Finset.mem_univ _, ?_⟩
    · unfold weightR; split
      · exact (Real.exp_pos _).le
      · exact le_rfl
    · unfold weightR; rw [if_pos le_rfl]; exact Real.exp_pos _
  have hm : 0 < Real.exp (-M) := Real.exp_pos _
  rw [weight_sum, hS, weight_eq, hs, Ideal.div_coe hL.ne', Ideal.div_coe (mul_pos hL hm).ne', mul_left_comm, ← EReal.coe_mul,
    ← EReal.coe_mul, mul_comm]
  congr 2
  field_simp

/-! ## The output's row -/

/-- The kernel's output element: the codes times the values, then the scale. -/
def kernelOut (z : Fin 4096 → EReal) (r : Fin 4096) (v : Fin 4096 → EReal) (o : EReal) : EReal :=
  (∑ c, clip (weight z r c * Ideal.div (Ideal.ofBits .f32 1132462080#32) (∑ c, weight z r c)) * v c) * o

/-- The reference's. -/
def refOut (z : Fin 4096 → EReal) (r : Fin 4096) (v : Fin 4096 → EReal) (o : EReal) : EReal :=
  (∑ c, clip (Ideal.div (shifted z r c) (∑ c, shifted z r c) * Ideal.ofBits .f32 1132462080#32) * v c) * o

/-- They are equal. -/
theorem kernelOut_eq (z : Fin 4096 → EReal) (r : Fin 4096) (v : Fin 4096 → EReal) (o : EReal) :
    kernelOut z r v o = refOut z r v o := by
  unfold kernelOut refOut
  rw [Finset.sum_congr rfl fun c _ => by rw [normalized_eq z r c]]

/-! ## Sums over key blocks -/

/-- A function of the keys read at any natural number, zero past the last key. -/
def ext (f : Fin 4096 → EReal) (n : ℕ) : EReal := if h : n < 4096 then f ⟨n, h⟩ else 0

theorem ext_val (f : Fin 4096 → EReal) (c : Fin 4096) : ext f c.val = f c := by
  unfold ext; rw [dif_pos c.isLt]

theorem sum_ext (f : Fin 4096 → EReal) : (∑ n ∈ Finset.range 4096, ext f n) = ∑ c, f c := by
  rw [← Fin.sum_univ_eq_sum_range]
  exact Finset.sum_congr rfl fun c _ => ext_val f c

/-- The blocks of 256 up to the `q`-th, of a function that vanishes past them, hold the whole sum. -/
theorem sum_blocks (f : Fin 4096 → EReal) (q : ℕ) (hq : q < 16) (hz : ∀ c : Fin 4096, 256 * (q + 1) ≤ c.val → f c = 0) :
    (∑ k ∈ Finset.range (q + 1), ∑ x : Fin 256, ext f (256 * k + x.val)) = ∑ c, f c := by
  rw [← sum_ext]
  have h1 : ∀ n, (∑ k ∈ Finset.range n, ∑ x : Fin 256, ext f (256 * k + x.val)) = ∑ i ∈ Finset.range (256 * n), ext f i := fun n => by
    induction n with
    | zero => rfl
    | succ n ih =>
      rw [Finset.sum_range_succ, ih, Nat.mul_succ, Finset.sum_range_add]
      exact congrArg _ (Fin.sum_univ_eq_sum_range (fun x => ext f (256 * n + x)) 256)
  rw [h1]
  refine Finset.sum_subset (fun i hi => ?_) fun i _ hi => ?_
  · rw [Finset.mem_range] at hi ⊢; omega
  · rw [Finset.mem_range, not_lt] at hi
    unfold ext; split
    · exact hz _ hi
    · rfl

/-- Folding each block's two halves together lane by lane, then summing the lanes, sums the blocks. -/
theorem sum_lanes (g : ℕ → EReal) (q : ℕ) :
    (∑ l : Fin 128, ((g (256 * q + l.val) + g (256 * q + (128 + l.val)))
        + ∑ k ∈ Finset.range q, (g (256 * k + l.val) + g (256 * k + (128 + l.val)))))
      = ∑ k ∈ Finset.range (q + 1), ∑ x : Fin 256, g (256 * k + x.val) := by
  have h : ∀ k, (∑ x : Fin 256, g (256 * k + x.val)) = ∑ l : Fin 128, (g (256 * k + l.val) + g (256 * k + (128 + l.val))) := fun k => by
    rw [Finset.sum_add_distrib]
    exact Fin.sum_univ_add (a := 128) (b := 128) fun x => g (256 * k + x.val)
  rw [Finset.sum_add_distrib, Finset.sum_comm, Finset.sum_range_succ, add_comm, h]
  congr 1
  exact Finset.sum_congr rfl fun k _ => (h k).symm

end Cert.Row
-- ==== Proof.KerValue.lean ====
/-
  What the idealized kernel's body leaves in the result's block, element by element: `Row.kernelOut` of the element's row of
  scores and column of values.
-/
module

public import proofs.«01_k».proof.Proof.BodyKernelIdeal
public import proofs.«01_k».proof.Proof.Row
public import Idealize.ShloMosaic.Lib.Pipeline.ValueKit
public import Idealize.ShloMosaic.Lib.Pointwise
public import Idealize.ShloMosaic.PureOps.Ideal

@[expose] public section

set_option maxRecDepth 16384

noncomputable section

namespace Cert.KernelIdeal.KerValue

open Cert.KernelIdeal Cert.KernelIdeal.Gen Cert.KernelIdeal.Body Cert.Trips Cert.Row
open Idealize.ShloMosaic Idealize.ShloMosaic.TcCoe Idealize.SL.Sem

/-! ## The payloads at an index -/

/-- The named constant is the real 50 log₂ e. -/
theorem softcap_log2e :
    Named.named (F := Ideal) κ "softcap_log2e" (φ := .f32) 1116751102#32 = ((50 * (Real.log 2)⁻¹ : ℝ) : EReal) :=
  IdealRules.named_const.ideal_named_scalar _ _ _ _ rfl

/-- A score block off the diagonal: the exponentials. -/
theorem pay10_apply (w : EReal) (q k : Vec Ideal S1x256x128 .fp8e4m3) (y x : Fin 256) :
    k0_pay10 (F := Ideal) w q k (ix2 y x) = expo ((∑ d, q (ix3 0 y d) * k (ix3 0 x d)) * w) := by
  pointwise [k0_pay10, k0_pay6]
  rw [softcap_log2e]; rfl

/-- The diagonal's block: the exponentials at and before the query, zero behind it. -/
theorem pay7_apply (w : EReal) (q k : Vec Ideal S1x256x128 .fp8e4m3) (y x : Fin 256) :
    k0_pay7 (F := Ideal) w q k (ix2 y x) = if x ≤ y then expo ((∑ d, q (ix3 0 y d) * k (ix3 0 x d)) * w) else 0 := by
  pointwise [k0_pay7, k0_pay6]
  rw [softcap_log2e, WordCmp.cmpi_sle_ofNat (by omega) (by omega)]
  by_cases h : x ≤ y
  · rw [if_pos h, decide_eq_true (Fin.le_def.mp h)]; rfl
  · rw [if_neg h, decide_eq_false (fun h' => h (Fin.le_def.mpr h'))]; rfl

theorem pay8_apply (w : EReal) (q k : Vec Ideal S1x256x128 .fp8e4m3) (u : Fin 1) (y x : Fin 256) :
    k0_pay8 (F := Ideal) w q k (ix3 u y x) = k0_pay7 (F := Ideal) w q k (ix2 y x) := by
  pointwise [k0_pay8]

theorem pay11_apply (w : EReal) (q k : Vec Ideal S1x256x128 .fp8e4m3) (u : Fin 1) (y x : Fin 256) :
    k0_pay11 (F := Ideal) w q k (ix3 u y x) = k0_pay10 (F := Ideal) w q k (ix2 y x) := by
  pointwise [k0_pay11]

/-- A lane folds the columns of its two halves. -/
theorem pay9_apply (w : EReal) (q k : Vec Ideal S1x256x128 .fp8e4m3) (y : Fin 256) (l : Fin 128) :
    k0_pay9 (F := Ideal) w q k (ix2 y l)
      = k0_pay7 (F := Ideal) w q k (ix2 y ⟨l.val, by omega⟩) + k0_pay7 (F := Ideal) w q k (ix2 y ⟨128 + l.val, by omega⟩) := by
  pointwise [k0_pay9]

theorem pay12_apply (w : EReal) (q k : Vec Ideal S1x256x128 .fp8e4m3) (a : Vec Ideal S256x128 .f32) (y : Fin 256) (l : Fin 128) :
    k0_pay12 (F := Ideal) w q k a (ix2 y l)
      = a (ix2 y l) + (k0_pay10 (F := Ideal) w q k (ix2 y ⟨l.val, by omega⟩) + k0_pay10 (F := Ideal) w q k (ix2 y ⟨128 + l.val, by omega⟩)) := by
  pointwise [k0_pay12]

/-- A block's contribution to the output: its codes times its values. -/
theorem pay3_apply (l : Vec Ideal S256x128 .f32) (e : Vec Ideal S1x256x256 .f32) (v : Vec Ideal S1x256x128 .fp8e4m3)
    (a : Vec Ideal S256x128 .f32) (y : Fin 256) (d : Fin 128) :
    k0_pay3 (F := Ideal) l e v a (ix2 y d)
      = a (ix2 y d) + ∑ x : Fin 256, clip (e (ix3 0 y x) * Ideal.div (Ideal.ofBits .f32 1132462080#32) (∑ l' : Fin 128, l (ix2 y l')))
          * v (ix3 0 x d) := by
  unfold clip
  pointwise [k0_pay3, k0_pay1]

theorem pay2_apply (y : Fin 256) (d : Fin 128) : k0_pay2 (F := Ideal) (ix2 y d) = 0 := by
  pointwise [k0_pay2]

theorem pay5_apply (a : Vec Ideal S256x128 .f32) (o : EReal) (u : Fin 1) (y : Fin 256) (d : Fin 128) :
    k0_pay5 (F := Ideal) a o (ix3 u y d) = a (ix2 y d) * o := by
  pointwise [k0_pay5]

/-! ## The loads at an index -/

/-- A block of 256 rows of the keys or of the values. -/
theorem ld_rows (x : Vec Ideal S1x4096x128 .fp8e4m3) (off : Fin 3 → ℕ) (k : ℕ) (hk : k < 16) (h : off = ![0, 256 * k, 0])
    (inb : ∀ a, off a + S1x256x128.size a ≤ S1x4096x128.size a) (u : Fin 1) (y : Fin 256) (d : Fin 128) :
    View.ld x (Rect.unit (s := S1x4096x128) off S1x256x128.size inb) (ix3 u y d) = x (ix3 0 ⟨256 * k + y.val, by omega⟩ d) := by
  subst h
  pointwise

/-! ## A row of the block -/

variable (i : grid0.Coords) (x2 : Vec Ideal S1x256x128 .fp8e4m3) (x3 x4 : Vec Ideal S1x4096x128 .fp8e4m3) (w : EReal)

/-- The score's argument of row `y` of the block and key `c`. -/
def arg (y : Fin 256) (c : Fin 4096) : EReal := (∑ d : Fin 128, x2 (ix3 0 y d) * x3 (ix3 0 c d)) * w

/-- The row of the array that row `y` of the block is. -/
def row (y : Fin 256) : Fin 4096 := ⟨256 * (i 2).val + y.val, by have := (i 2).isLt; have := lt16 (i 2); omega⟩

/-- A row's weights, at any natural number. -/
def wt (y : Fin 256) : ℕ → EReal := ext (weight (arg x2 x3 w y) (row i y))

theorem pay10_weight (k : Fin (k0_t1_loop i).trips) (y x : Fin 256) :
    k0_pay10 (F := Ideal) w x2 (View.ld x3 (r4 i k)) (ix2 y x) = wt i x2 x3 w y (256 * k.val + x.val) := by
  have h1 := trip1_lt i k; have h2 := lt16 (i 2)
  rw [pay10_apply]
  unfold wt ext
  rw [dif_pos (by omega)]
  unfold weight arg
  rw [if_pos (by rw [Fin.le_def]; simp only [row]; omega)]
  congr 2
  refine Finset.sum_congr rfl fun d _ => ?_
  rw [ld_rows x3 _ k.val (by omega) (off4 i k)]

theorem pay7_weight (y x : Fin 256) :
    k0_pay7 (F := Ideal) w x2 (View.ld x3 (r2 i)) (ix2 y x) = wt i x2 x3 w y (256 * (i 2).val + x.val) := by
  have h2 := lt16 (i 2)
  rw [pay7_apply]
  unfold wt ext
  rw [dif_pos (by omega)]
  unfold weight arg
  have e : (x ≤ y) = ((⟨256 * (i 2).val + x.val, by omega⟩ : Fin 4096) ≤ row i y) := by
    rw [Fin.le_def, Fin.le_def]; simp only [row, eq_iff_iff]; omega
  simp only [e]
  congr 3
  refine Finset.sum_congr rfl fun d _ => ?_
  rw [ld_rows x3 _ (i 2).val h2 (off2 i)]

/-- Block `k` of the exponentials. -/
theorem expBlk_apply (k : Fin (k0_t3_loop i).trips) (u : Fin 1) (y x : Fin 256) :
    expBlk i x2 x3 w k (ix3 u y x) = wt i x2 x3 w y (256 * k.val + x.val) := by
  unfold expBlk
  split
  · rename_i h
    rw [pay11_apply]; exact pay10_weight i x2 x3 w ⟨k.val, h⟩ y x
  · rename_i h
    have : k.val = (i 2).val := by have := trip3_lt i k; rw [trips1] at h; omega
    rw [pay8_apply, this]; exact pay7_weight i x2 x3 w y x

/-- A loop that adds a term each trip, at an index. -/
theorem iterV_add (n : ℕ) (st : Fin n → Vec Ideal S256x128 .f32 → Vec Ideal S256x128 .f32) (a : Vec Ideal S256x128 .f32)
    (j : S256x128.Idx) (t : ℕ → EReal) (h : ∀ k v, st k v j = v j + t k.val) (k : ℕ) (hk : k ≤ n) :
    iterV n st a k j = a j + ∑ i ∈ Finset.range k, t i := by
  induction k with
  | zero => rw [iterV_zero, Finset.sum_range_zero, add_zero]
  | succ k ih => rw [iterV_succ n st a ⟨k, hk⟩, h, ih (by omega), Finset.sum_range_succ, add_assoc]

/-- The lanes' partial sums. -/
theorem lanes_apply (y : Fin 256) (l : Fin 128) :
    lanes i x2 x3 w (ix2 y l)
      = (wt i x2 x3 w y (256 * (i 2).val + l.val) + wt i x2 x3 w y (256 * (i 2).val + (128 + l.val)))
        + ∑ k ∈ Finset.range (i 2).val, (wt i x2 x3 w y (256 * k + l.val) + wt i x2 x3 w y (256 * k + (128 + l.val))) := by
  unfold lanes
  rw [iterV_add _ _ _ _ (fun k => wt i x2 x3 w y (256 * k + l.val) + wt i x2 x3 w y (256 * k + (128 + l.val)))
    (fun k v => by rw [pay12_apply, pay10_weight, pay10_weight]) _ le_rfl, trips1, pay9_apply, pay7_weight, pay7_weight]

/-- A weight past the row's block is zero. -/
theorem weight_past (y : Fin 256) (c : Fin 4096) (h : 256 * ((i 2).val + 1) ≤ c.val) :
    weight (arg x2 x3 w y) (row i y) c = 0 := by
  unfold weight; rw [if_neg]; rw [Fin.le_def]; simp only [row]; omega

/-- The row's sum. -/
theorem lanes_sum (y : Fin 256) :
    (∑ l : Fin 128, lanes i x2 x3 w (ix2 y l)) = ∑ c, weight (arg x2 x3 w y) (row i y) c := by
  rw [Finset.sum_congr rfl fun l _ => lanes_apply i x2 x3 w y l, sum_lanes, ← sum_blocks _ (i 2).val (lt16 (i 2)) (weight_past i x2 x3 w y)]
  rfl

/-- The block the body leaves, at an index. -/
theorem bodyOut_apply (x0 x1 : Vec Ideal S64 .f32) (u : Fin 1) (y : Fin 256) (d : Fin 128) :
    bodyOut (F := Ideal) i x0 x1 x2 x3 x4 (ix3 u y d)
      = kernelOut (arg x2 x3 (word i x0) y) (row i y) (fun c => x4 (ix3 0 c d)) (word i x1) := by
  unfold bodyOut kernelOut
  rw [pay5_apply]
  congr 1
  set w := word i x0
  unfold accum
  set D := Ideal.div (Ideal.ofBits .f32 1132462080#32) (∑ c, weight (arg x2 x3 w y) (row i y) c) with hD
  rw [iterV_add _ _ _ _ (fun k => ∑ x : Fin 256, ext (fun c => clip (weight (arg x2 x3 w y) (row i y) c * D) * x4 (ix3 0 c d)) (256 * k + x.val))
    (fun k v => ?_) _ le_rfl, trips3, pay2_apply, zero_add]
  · refine sum_blocks _ _ (lt16 (i 2)) fun c hc => ?_
    rw [weight_past i x2 x3 w y c hc, zero_mul, clip_zero, zero_mul]
  · have h1 := trip3_lt i k; have h2 := lt16 (i 2)
    rw [pay3_apply, lanes_sum, ← hD]
    congr 1
    refine Finset.sum_congr rfl fun x _ => ?_
    rw [expBlk_apply, ld_rows x4 _ k.val (by omega) (off9 i k)]
    unfold wt ext
    rw [dif_pos (by omega), dif_pos (by omega)]

end Cert.KernelIdeal.KerValue
-- ==== Proof.KerResult.lean ====
/-
  The idealized kernel's result array after the run, as a function of the arguments.
-/
module

public import proofs.«01_k».proof.Proof.KerValue
public import Idealize.ShloMosaic.Lib.Pipeline.Covers

@[expose] public section

set_option maxRecDepth 16384

noncomputable section

namespace Cert.KernelIdeal.KerValue

open Cert.KernelIdeal Cert.KernelIdeal.Gen Cert.KernelIdeal.Body Cert.Trips Cert.Row
open Idealize.ShloMosaic Idealize.ShloMosaic.TcCoe Idealize.SL.Sem

variable (m : (ℓ : Loc nD τ sig) → Buf (Elt Ideal) ℓ) (ρ : Dev nD → PrngReg)

/-- The score's argument of batch `b`, head `h`, query row `r` and key `c`, at the head's scale `w`. -/
def argG (x y : Vec Ideal S4x4096x8192 .fp8e4m3) (w : EReal) (b : Fin 4) (h : Fin 64) (r c : Fin 4096) : EReal :=
  (∑ d : Fin 128, x (ix3 b r (⟨h.val * 128 + d.val, by omega⟩ : Fin 8192)) * y (ix3 b c (⟨h.val * 128 + d.val, by omega⟩ : Fin 8192))) * w

/-- The head of a column. -/
def head (l : Fin 8192) : Fin 64 := ⟨l.val / 128, by omega⟩

/-- The scores' scale of a head, -/
def scaleZ (s t : Vec Ideal S64 .f32) (h : Fin 64) : EReal :=
  s (ix1 h) * t (ix1 h) * Ideal.ofBits .f32 1035273459#32 * Ideal.ofBits .f32 1017370378#32

/-- and the output's. -/
def scaleO (u : Vec Ideal S64 .f32) (h : Fin 64) : EReal := u (ix1 h) * Ideal.ofBits .f32 998244352#32

/-- The result as a function of the arguments. -/
def G (x : Vec Ideal S4x4096x8192 .fp8e4m3) (s : Vec Ideal S64 .f32) (y : Vec Ideal S4x4096x8192 .fp8e4m3) (t : Vec Ideal S64 .f32)
    (v : Vec Ideal S4x4096x8192 .fp8e4m3) (u : Vec Ideal S64 .f32) : Vec Ideal S4x4096x8192 .bf16 := fun j =>
  kernelOut (argG x y (scaleZ s t (head (j 2))) (j 0) (head (j 2)) (j 1)) (j 1) (fun c => v (ix3 (j 0) c (j 2))) (scaleO u (head (j 2)))

theorem G_apply (x : Vec Ideal S4x4096x8192 .fp8e4m3) (s : Vec Ideal S64 .f32) (y : Vec Ideal S4x4096x8192 .fp8e4m3) (t : Vec Ideal S64 .f32)
    (v : Vec Ideal S4x4096x8192 .fp8e4m3) (u : Vec Ideal S64 .f32) (b : Fin 4) (r : Fin 4096) (l : Fin 8192) :
    G x s y t v u (ix3 b r l)
      = kernelOut (argG x y (scaleZ s t (head l)) b (head l) r) r (fun c => v (ix3 b c l)) (scaleO u (head l)) := rfl

/-- The windows' index maps in the coordinates of a grid point: batch, head, query block. -/
theorem idx0 : ∀ t : Fin cfg0.N, win0_0.index t = ![0] := by decide +kernel
theorem idx1 : ∀ t : Fin cfg0.N, win0_1.index t = ![0] := by decide +kernel
theorem idx2 : ∀ t : Fin cfg0.N, win0_2.index t = ![(grid0.coords t 0).val, (grid0.coords t 2).val, (grid0.coords t 1).val] := by decide +kernel
theorem idx3 : ∀ t : Fin cfg0.N, win0_3.index t = ![(grid0.coords t 0).val, 0, (grid0.coords t 1).val] := by decide +kernel
theorem idx4 : ∀ t : Fin cfg0.N, win0_4.index t = ![(grid0.coords t 0).val, 0, (grid0.coords t 1).val] := by decide +kernel
theorem idx5 : ∀ t : Fin cfg0.N, win0_5.index t = ![(grid0.coords t 0).val, (grid0.coords t 2).val, (grid0.coords t 1).val] := by decide +kernel

/-- A point's batch, head and query block. -/
def bat (t : Fin cfg0.N) : Fin 4 := grid0.coords t 0
def hd (t : Fin cfg0.N) : Fin 64 := grid0.coords t 1
def qb (t : Fin cfg0.N) : Fin 16 := grid0.coords t 2

theorem blk2 (c : Dev nD) (t : Fin cfg0.N) (y : Fin 256) (d : Fin 128) : iblk m c 2 t (ix3 0 y d)
    = m ((c : Thread nD τ).loc main_arg0) (ix3 (bat t) (⟨256 * (qb t).val + y.val, by omega⟩ : Fin 4096) (⟨(hd t).val * 128 + d.val, by omega⟩ : Fin 8192)) := by
  blk_ext [iblk, V, idx2 t] <;> simp only [bat, qb, hd] <;> omega

theorem blk3 (c : Dev nD) (t : Fin cfg0.N) (y : Fin 4096) (d : Fin 128) : iblk m c 3 t (ix3 0 y d)
    = m ((c : Thread nD τ).loc main_arg2) (ix3 (bat t) y (⟨(hd t).val * 128 + d.val, by omega⟩ : Fin 8192)) := by
  blk_ext [iblk, V, idx3 t] <;> simp only [bat, hd] <;> omega

theorem blk4 (c : Dev nD) (t : Fin cfg0.N) (y : Fin 4096) (d : Fin 128) : iblk m c 4 t (ix3 0 y d)
    = m ((c : Thread nD τ).loc main_arg4) (ix3 (bat t) y (⟨(hd t).val * 128 + d.val, by omega⟩ : Fin 8192)) := by
  blk_ext [iblk, V, idx4 t] <;> simp only [bat, hd] <;> omega

theorem word_apply (i : grid0.Coords) (x : Vec Ideal S64 .f32) : word (F := Ideal) i x = x (ix1 (i 1)) := by
  unfold word
  congr 1
  funext a
  apply Fin.ext
  fin_cases a
  have h := congrFun (off1 i) 0
  change k0_off1 i 0 + 0 * 1 = (i 1).val
  rw [h]
  rfl

theorem blk0 (c : Dev nD) (t : Fin cfg0.N) (h : Fin 64) : iblk m c 0 t (ix1 h)
    = scaleZ (m ((c : Thread nD τ).loc main_arg1)) (m ((c : Thread nD τ).loc main_arg3)) h := by
  have := idx0 t
  unfold scaleZ
  have e : ((View.whole main_v4).slice (win0_0.rect t)).emb (ix1 h) = ix1 h := by blk_ext [this]
  blk_simp [iblk, this]
  entry_read
  rw [e]
  pointwise

theorem blk1 (c : Dev nD) (t : Fin cfg0.N) (h : Fin 64) : iblk m c 1 t (ix1 h)
    = scaleO (m ((c : Thread nD τ).loc main_arg5)) h := by
  have := idx1 t
  unfold scaleO
  have e : ((View.whole main_v6).slice (win0_1.rect t)).emb (ix1 h) = ix1 h := by blk_ext [this]
  blk_simp [iblk, this]
  entry_read
  rw [e]
  pointwise

/-- The result's array after the run. -/
theorem final (c : Dev nD) : (dats (F := Ideal) m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats (F := Ideal) m 0 c).arrAt_eq_of_covers 5 _ (by decide +kernel) fun t hf y => ?_
  idx_vars y
  blk_simp
  rw [after0_5]
  unfold outAt
  rw [bodyOut_apply, word_apply, word_apply]
  have e : (win0_5.blk t).view.emb (ix3 y0 y1 y2)
      = ix3 (bat t) (⟨256 * (qb t).val + y1.val, by omega⟩ : Fin 4096) (⟨(hd t).val * 128 + y2.val, by omega⟩ : Fin 8192) := by
    blk_ext [idx5 t] <;> simp only [bat, qb, hd] <;> omega
  have eh : head (⟨(hd t).val * 128 + y2.val, by omega⟩ : Fin 8192) = hd t := Fin.ext (by simp only [head]; omega)
  have ea : arg (iblk m c 2 t) (iblk m c 3 t) (iblk m c 0 t (ix1 (grid0.coords t 1))) y1
      = argG (m ((c : Thread nD τ).loc main_arg0)) (m ((c : Thread nD τ).loc main_arg2))
          (scaleZ (m ((c : Thread nD τ).loc main_arg1)) (m ((c : Thread nD τ).loc main_arg3)) (hd t)) (bat t) (hd t)
          (⟨256 * (qb t).val + y1.val, by omega⟩ : Fin 4096) := by
    funext k
    unfold arg argG
    rw [blk0 m c t (grid0.coords t 1)]
    exact congrArg (· * _) (Finset.sum_congr rfl fun d _ => by rw [blk2, blk3])
  have ev : (fun k => iblk m c 4 t (ix3 0 k y2)) = fun k : Fin 4096 =>
      m ((c : Thread nD τ).loc main_arg4) (ix3 (bat t) k (⟨(hd t).val * 128 + y2.val, by omega⟩ : Fin 8192)) :=
    funext fun k => blk4 m c t k y2
  rw [e, ea, ev, blk1 m c t (grid0.coords t 1)]
  rw [G_apply, eh]
  rfl

/-- The idealized kernel's run: it terminates with its result at `G` of the arguments, which are unchanged. -/
theorem run : θ_run defs (onTc (τ := τ) (main (F := Ideal))) ⟨m, fun _ => 0, ρ⟩ fun r => ∀ c : Dev nD,
      r.2.mem ((c : Thread nD τ).loc main_v7)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨((h.1 c).1 5).trans (final m c), h.2 c⟩)
    (θ_run_and (run_main (F := Ideal) m ρ) (frame_of (F := Ideal) m ρ (dats m) (A_eq m) (run_main m ρ)))

end Cert.KernelIdeal.KerValue
-- ==== Proof.RefValue.lean ====
/-
  What the idealized reference's result holds, element by element: `Row.refOut` of the element's row of scores and column of
  values.
-/
module

public import proofs.«01_k».proof.Proof.Gen.ReferenceIdeal.Value
public import proofs.«01_k».proof.Proof.Row
public import Idealize.ShloMosaic.Lib.Pipeline.ValueKit
public import Idealize.ShloMosaic.Lib.Pointwise
public import Idealize.ShloMosaic.PureOps.Ideal

@[expose] public section

set_option maxRecDepth 16384

noncomputable section

namespace Cert.ReferenceIdeal.RefValue

open Cert.ReferenceIdeal Cert.ReferenceIdeal.Gen Cert.Row
open Idealize.ShloMosaic Idealize.ShloMosaic.TcCoe Idealize.SL.Sem

/-! ## The payloads at an index -/

/-- An array split into heads: head `g` is batch `g / 64`, columns from `128 * (g % 64)`. -/
theorem heads_apply (x : Vec Ideal S4x4096x8192 .fp8e4m3) (g : Fin 256) (r : Fin 4096) (d : Fin 128) :
    k0_pay2 (F := Ideal) x (ix3 g r d)
      = x (ix3 (⟨g.val / 64, by omega⟩ : Fin 4) r (⟨g.val % 64 * 128 + d.val, by omega⟩ : Fin 8192)) := by
  pointwise [k0_pay2]

/-- The causal mask on index words is the order of the indices. -/
theorem select_causal (c r : Fin 4096) (a b : EReal) :
    Scalar.select (IntOp.cmpi .sle (BitVec.ofNat 32 c.val) (BitVec.ofNat 32 r.val)) a b = if c ≤ r then a else b := by
  rw [WordCmp.cmpi_sle_ofNat (by omega) (by omega)]
  by_cases h : c ≤ r
  · rw [if_pos h, decide_eq_true (Fin.le_def.mp h)]; rfl
  · rw [if_neg h, decide_eq_false (fun h' => h (Fin.le_def.mpr h'))]; rfl

/-- The score's argument of batch `b`, head `h`, query row `r` and key `c`. -/
def arg (x y : Vec Ideal S4x4096x8192 .fp8e4m3) (w : EReal) (b : Fin 4) (h : Fin 64) (r c : Fin 4096) : EReal :=
  (∑ d : Fin 128, x (ix3 b r (⟨h.val * 128 + d.val, by omega⟩ : Fin 8192)) * y (ix3 b c (⟨h.val * 128 + d.val, by omega⟩ : Fin 8192)))
    * (w * Ideal.ofBits .f32 1035273459#32) * Ideal.ofBits .f32 1017370378#32

/-- The exponentials. -/
theorem exps_apply (x y : Vec Ideal S4x4096x8192 .fp8e4m3) (s t : Vec Ideal S1x64 .f32) (g : Fin 256) (r c : Fin 4096) :
    k0_pay3 (F := Ideal) x y s t (ix3 g r c)
      = shifted (arg x y (s (ix2 0 (⟨g.val % 64, by omega⟩ : Fin 64)) * t (ix2 0 (⟨g.val % 64, by omega⟩ : Fin 64)))
          ⟨g.val / 64, by omega⟩ ⟨g.val % 64, by omega⟩ r) r c := by
  unfold shifted
  pointwise [k0_pay3]
  simp only [select_causal]
  rfl

/-- The result's payload. -/
theorem out_apply (v : FVec Ideal S256x4096x128 .fp8e4m3) (p : FVec Ideal S256x4096x4096 .f32) (s : Vec Ideal S1x64 .f32)
    (b : Fin 4) (r : Fin 4096) (l : Fin 8192) :
    k0_pay1 (F := Ideal) v p s (ix3 b r l)
      = (∑ c : Fin 4096, clip (Ideal.div (p (ix3 (⟨b.val * 64 + l.val / 128, by omega⟩ : Fin 256) r c))
            (∑ c' : Fin 4096, p (ix3 (⟨b.val * 64 + l.val / 128, by omega⟩ : Fin 256) r c')) * Ideal.ofBits .f32 1132462080#32)
          * v (ix3 (⟨b.val * 64 + l.val / 128, by omega⟩ : Fin 256) c (⟨l.val % 128, by omega⟩ : Fin 128)))
        * (s (ix2 0 (⟨(b.val * 64 + l.val / 128) % 64, by omega⟩ : Fin 64)) * Ideal.ofBits .f32 998244352#32) := by
  unfold clip
  pointwise [k0_pay1]

/-- The result, a function of the arguments' arrays. -/
theorem result_apply (x y v : Vec Ideal S4x4096x8192 .fp8e4m3) (s t u : Vec Ideal S1x64 .f32) (b : Fin 4) (r : Fin 4096) (l : Fin 8192) :
    k0_pay1 (F := Ideal) (k0_pay2 v) (k0_pay3 x y s t) u (ix3 b r l)
      = refOut (arg x y (s (ix2 0 (⟨l.val / 128, by omega⟩ : Fin 64)) * t (ix2 0 (⟨l.val / 128, by omega⟩ : Fin 64))) b ⟨l.val / 128, by omega⟩ r) r
          (fun c => v (ix3 b c l)) (u (ix2 0 (⟨l.val / 128, by omega⟩ : Fin 64)) * Ideal.ofBits .f32 998244352#32) := by
  rw [out_apply]
  simp only [exps_apply, heads_apply]
  have e1 : (b.val * 64 + l.val / 128) / 64 = b.val := by omega
  have e2 : (b.val * 64 + l.val / 128) % 64 = l.val / 128 := by omega
  have e3 : l.val / 128 * 128 + l.val % 128 = l.val := by omega
  simp only [e1, e2, e3]
  rfl

variable (m : (ℓ : Loc nD τ sig) → Buf (Elt Ideal) ℓ) (ρ : Dev nD → PrngReg)

/-- The result as a function of the arguments. -/
def G (x : Vec Ideal S4x4096x8192 .fp8e4m3) (s : Vec Ideal S64 .f32) (y : Vec Ideal S4x4096x8192 .fp8e4m3) (t : Vec Ideal S64 .f32)
    (v : Vec Ideal S4x4096x8192 .fp8e4m3) (u : Vec Ideal S64 .f32) : Vec Ideal S4x4096x8192 .bf16 := fun j =>
  refOut (arg x y (s (ix1 (⟨(j 2).val / 128, by have := (j 2).isLt; change _ < 8192 at this; omega⟩ : Fin 64))
      * t (ix1 (⟨(j 2).val / 128, by have := (j 2).isLt; change _ < 8192 at this; omega⟩ : Fin 64))) (j 0)
      ⟨(j 2).val / 128, by have := (j 2).isLt; change _ < 8192 at this; omega⟩ (j 1)) (j 1)
    (fun c => v (ix3 (j 0) c (j 2)))
    (u (ix1 (⟨(j 2).val / 128, by have := (j 2).isLt; change _ < 8192 at this; omega⟩ : Fin 64)) * Ideal.ofBits .f32 998244352#32)

theorem idx : ∀ t : Fin cfg0.N, win0_0.index t = ![0, 0, 0] ∧ win0_1.index t = ![0, 0] ∧ win0_2.index t = ![0, 0, 0]
    ∧ win0_3.index t = ![0, 0] ∧ win0_4.index t = ![0, 0, 0] ∧ win0_5.index t = ![0, 0] ∧ win0_6.index t = ![0, 0, 0] := by
  decide +kernel

theorem blk0 (c : Dev nD) (t : Fin cfg0.N) : iblk m c 0 t = m ((c : Thread nD τ).loc main_arg0) := by
  funext y; obtain ⟨h, -⟩ := idx t; idx_vars y; blk_ext [iblk, V, h]
theorem blk2 (c : Dev nD) (t : Fin cfg0.N) : iblk m c 2 t = m ((c : Thread nD τ).loc main_arg2) := by
  funext y; obtain ⟨-, -, h, -⟩ := idx t; idx_vars y; blk_ext [iblk, V, h]
theorem blk4 (c : Dev nD) (t : Fin cfg0.N) : iblk m c 4 t = m ((c : Thread nD τ).loc main_arg4) := by
  funext y; obtain ⟨-, -, -, -, h, -⟩ := idx t; idx_vars y; blk_ext [iblk, V, h]
theorem blk1 (c : Dev nD) (t : Fin cfg0.N) (h : Fin 64) :
    iblk m c 1 t (ix2 0 h) = m ((c : Thread nD τ).loc main_arg1) (ix1 h) := by
  obtain ⟨-, e, -⟩ := idx t
  have e' : ((View.whole main_v0).slice (win0_1.rect t)).emb (ix2 0 h) = ix2 0 h := by blk_ext [e]
  blk_simp [iblk]
  entry_read
  rw [e']
  pointwise
theorem blk3 (c : Dev nD) (t : Fin cfg0.N) (h : Fin 64) :
    iblk m c 3 t (ix2 0 h) = m ((c : Thread nD τ).loc main_arg3) (ix1 h) := by
  obtain ⟨-, -, -, e, -⟩ := idx t
  have e' : ((View.whole main_v1).slice (win0_3.rect t)).emb (ix2 0 h) = ix2 0 h := by blk_ext [e]
  blk_simp [iblk]
  entry_read
  rw [e']
  pointwise
theorem blk5 (c : Dev nD) (t : Fin cfg0.N) (h : Fin 64) :
    iblk m c 5 t (ix2 0 h) = m ((c : Thread nD τ).loc main_arg5) (ix1 h) := by
  obtain ⟨-, -, -, -, -, e, -⟩ := idx t
  have e' : ((View.whole main_v2).slice (win0_5.rect t)).emb (ix2 0 h) = ix2 0 h := by blk_ext [e]
  blk_simp [iblk]
  entry_read
  rw [e']
  pointwise

/-- The result's array after the run. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  idx_vars y
  blk_simp
  rw [after0_6]
  frame_out
  rw [result_apply]
  have e : ((View.whole main_v3).slice (win0_6.rect t)).emb (ix3 y0 y1 y2) = ix3 y0 y1 y2 := by
    obtain ⟨-, -, -, -, -, -, h⟩ := idx t
    blk_ext [h]
  rw [e, blk0, blk1, blk2, blk3, blk4, blk5]
  rfl

/-- The reference's run: it terminates with its result at `G` of the arguments, which are unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.ReferenceIdeal.RefValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.BodyKernel
public import proofs.«01_k».proof.Proof.BodyKernelIdeal
public import proofs.«01_k».proof.Proof.KerResult
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- The kernel terminates without a fault, leaves its arguments as they were and every semaphore at zero, -/
theorem frame_p : Cert.quiescent_Kernel := fun m ρ _ => Cert.Kernel.Body.frame m ρ

/-- so does the idealized kernel, -/
theorem frame_pi : Cert.quiescent_KernelIdeal := fun m ρ _ => Cert.KernelIdeal.Body.frame m ρ

/-- and the idealized reference. -/
theorem frame_ri : Cert.quiescent_ReferenceIdeal := fun m ρ _ => Cert.ReferenceIdeal.Gen.frame m ρ

/-- The kernel's literal is the binary32 nearest to `50 / log 2`, which the idealized kernel has in its place. -/
theorem preserves : Cert.preserves_Kernel_KernelIdeal :=
  IdealRules.named_const.statement Cert.KernelIdeal.κ "softcap_log2e" .f32 0x429044FE#32 ((50 * (Real.log 2)⁻¹ : ℝ) : EReal) rfl

/-- The two results are the same function of the arguments: each row's by `kernelOut_eq`, the scales' products by associativity. -/
theorem results_eq (x : Vec Ideal Cert.KernelIdeal.S4x4096x8192 .fp8e4m3) (s : Vec Ideal Cert.KernelIdeal.S64 .f32)
    (y : Vec Ideal Cert.KernelIdeal.S4x4096x8192 .fp8e4m3) (t : Vec Ideal Cert.KernelIdeal.S64 .f32)
    (v : Vec Ideal Cert.KernelIdeal.S4x4096x8192 .fp8e4m3) (u : Vec Ideal Cert.KernelIdeal.S64 .f32) :
    Cert.ReferenceIdeal.RefValue.G x s y t v u = Cert.KernelIdeal.KerValue.G x s y t v u := by
  funext j
  refine Eq.trans ?_ (Cert.Row.kernelOut_eq _ _ _ _).symm
  refine congrArg (fun z => Cert.Row.refOut z _ _ _) (funext fun c => ?_)
  unfold Cert.ReferenceIdeal.RefValue.arg Cert.KernelIdeal.KerValue.argG Cert.KernelIdeal.KerValue.scaleZ
  exact mul_assoc _ _ _

/-- From memories that agree on the arguments the idealized kernel and the idealized reference end with equal results. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun r h c => ⟨(h c).1.trans ?_, (h c).2⟩) (Cert.ReferenceIdeal.RefValue.run m' ρ')
  obtain ⟨h0, h1, h2, h3, h4, h5⟩ := hagree c
  rw [h0, h1, h2, h3, h4, h5]
  exact results_eq _ _ _ _ _ _

theorem claim : Cert.Claim :=
  ⟨Cert.Kernel.Gen.facts, Cert.KernelIdeal.Gen.facts, Cert.ReferenceIdeal.Gen.facts,
    frame_p, frame_pi, frame_ri, preserves, algebraic⟩

end Cert.Proof

end
